-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_keeps_Kernel [hPre_keeps_Kernel : Cert.Pre_keeps_Kernel.Facts] (m : (ℓ : Loc Cert.Kernel.nD Cert.Kernel.τ Cert.Kernel.sig) → Buf (Elt Bits) ℓ) : Prop :=
  ∀ c : Dev Cert.Kernel.nD,
    (Cert.Pre_keeps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_keeps_Kernel [hPre_keeps_Kernel : Cert.Pre_keeps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_keeps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_keeps_ReferenceIdeal [hPre_keeps_ReferenceIdeal : Cert.Pre_keeps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keeps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_keeps_Kernel [hKernel : Cert.Kernel.Facts] [hPre_keeps_Kernel : Cert.Pre_keeps_Kernel.Facts] : Prop :=
  ∀ (m : (ℓ : Loc Cert.Kernel.nD Cert.Kernel.τ Cert.Kernel.sig) → Buf (Elt Bits) ℓ) (g : Dev Cert.Kernel.nD → PrngReg), Pre_Kernel_keeps_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_keeps_Kernel [hKernelIdeal : Cert.KernelIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keeps_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_keeps_ReferenceIdeal [hReferenceIdeal : Cert.ReferenceIdeal.Facts] [hPre_keeps_ReferenceIdeal : Cert.Pre_keeps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keeps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_keeps_Kernel [hKernelIdeal : Cert.KernelIdeal.Facts] [hReferenceIdeal : Cert.ReferenceIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keeps_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swaps_Kernel : Cert.Pre_swaps_Kernel.Facts) (hPre_keeps_Kernel : Cert.Pre_keeps_Kernel.Facts) (hPre_swaps_ReferenceIdeal : Cert.Pre_swaps_ReferenceIdeal.Facts) (hPre_keeps_ReferenceIdeal : Cert.Pre_keeps_ReferenceIdeal.Facts),
    quiescent_Kernel (hKernel := hKernel) (hPre_swaps_Kernel := hPre_swaps_Kernel)
    ∧ quiescent_Kernel_pre_keeps_Kernel (hKernel := hKernel) (hPre_keeps_Kernel := hPre_keeps_Kernel)
    ∧ quiescent_KernelIdeal (hKernelIdeal := hKernelIdeal) (hPre_swaps_Kernel := hPre_swaps_Kernel)
    ∧ quiescent_KernelIdeal_pre_keeps_Kernel (hKernelIdeal := hKernelIdeal) (hPre_keeps_Kernel := hPre_keeps_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_keeps_ReferenceIdeal (hReferenceIdeal := hReferenceIdeal) (hPre_keeps_ReferenceIdeal := hPre_keeps_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_keeps_Kernel (hKernelIdeal := hKernelIdeal) (hReferenceIdeal := hReferenceIdeal) (hPre_keeps_Kernel := hPre_keeps_Kernel)
-- ==== Pre_keeps_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_keeps_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swaps_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_swaps_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x4096x2048 : Shape := ⟨3, ![1, 4096, 2048]⟩
abbrev S2 : Shape := ⟨1, ![2]⟩
abbrev S2x256x2048 : Shape := ⟨3, ![2, 256, 2048]⟩
abbrev S4x256x2048 : Shape := ⟨3, ![4, 256, 2048]⟩
abbrev S4 : Shape := ⟨1, ![4]⟩
abbrev S16 : Shape := ⟨1, ![16]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩

abbrev nBuf : Space → Nat
  | .hbm => 3
  | .vmem => 2
  | .smem => 1
  | _ => 0

abbrev bufTy : (tb : Table) → Fin (tcTables nBuf tb) → BufTy
  | .hbm, ⟨0, _⟩ => ⟨S1x4096x2048, .f32⟩
  | .hbm, ⟨1, _⟩ => ⟨S2, .i32⟩
  | .hbm, ⟨2, _⟩ => ⟨S1x4096x2048, .bf16⟩
  | .local _ .vmem, ⟨0, _⟩ => ⟨S2x256x2048, .f32⟩
  | .local _ .vmem, ⟨1, _⟩ => ⟨S4x256x2048, .bf16⟩
  | .local _ .smem, ⟨0, _⟩ => ⟨S2, .i32⟩
  | _, _ => ⟨S1x4096x2048, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : Index := Scalar.indexCast v5
  ![v6.toNat]
def k0_dev1 (d0 : Dev nD) (v7 : BitVec 32) : Nat :=
  let c0_i32_105 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_104 : BitVec 32 := 2#32
  let v21 : BitVec 32 := Scalar.muli v2 c2_i32_104
  let v22 : BitVec 32 := Scalar.addi c0_i32_105 v21
  let c1_i32_106 : BitVec 32 := 1#32
  let v23 : BitVec 32 := Scalar.muli v7 c1_i32_106
  let v24 : BitVec 32 := Scalar.addi v22 v23
  v24.toNat
def k0_cond2 (d0 : Dev nD) (v7 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 1 := Scalar.cmpi .ne v7 v5
  let v12 : BitVec 32 := Scalar.extui v11
  let c0_i32_98 : BitVec 32 := 0#32
  let v13 : BitVec 1 := Scalar.cmpi .ne v12 c0_i32_98
  v13

def k0_dev2 (d0 : Dev nD) (v7 : BitVec 32) : Nat :=
  let c0_i32_125 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_124 : BitVec 32 := 2#32
  let v43 : BitVec 32 := Scalar.muli v2 c2_i32_124
  let v44 : BitVec 32 := Scalar.addi c0_i32_125 v43
  let c1_i32_126 : BitVec 32 := 1#32
  let v45 : BitVec 32 := Scalar.muli v7 c1_i32_126
  let v46 : BitVec 32 := Scalar.addi v44 v45
  v46.toNat
def k0_dev3 (d0 : Dev nD) (v7 : BitVec 32) : Nat :=
  let c0_i32_148 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_147 : BitVec 32 := 2#32
  let v73 : BitVec 32 := Scalar.muli v2 c2_i32_147
  let v74 : BitVec 32 := Scalar.addi c0_i32_148 v73
  let c1_i32_149 : BitVec 32 := 1#32
  let v75 : BitVec 32 := Scalar.muli v7 c1_i32_149
  let v76 : BitVec 32 := Scalar.addi v74 v75
  v76.toNat
def k0_dev4 (d0 : Dev nD) (v7 : BitVec 32) : Nat :=
  let c0_i32_171 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_170 : BitVec 32 := 2#32
  let v103 : BitVec 32 := Scalar.muli v2 c2_i32_170
  let v104 : BitVec 32 := Scalar.addi c0_i32_171 v103
  let c1_i32_172 : BitVec 32 := 1#32
  let v105 : BitVec 32 := Scalar.muli v7 c1_i32_172
  let v106 : BitVec 32 := Scalar.addi v104 v105
  v106.toNat
def k0_dev5 (d0 : Dev nD) (v7 : BitVec 32) : Nat :=
  let c0_i32_193 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_192 : BitVec 32 := 2#32
  let v133 : BitVec 32 := Scalar.muli v2 c2_i32_192
  let v134 : BitVec 32 := Scalar.addi c0_i32_193 v133
  let c1_i32_194 : BitVec 32 := 1#32
  let v135 : BitVec 32 := Scalar.muli v7 c1_i32_194
  let v136 : BitVec 32 := Scalar.addi v134 v135
  v136.toNat
def k0_dev6 (d0 : Dev nD) (v7 : BitVec 32) : Nat :=
  let c0_i32_225 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_224 : BitVec 32 := 2#32
  let v169 : BitVec 32 := Scalar.muli v2 c2_i32_224
  let v170 : BitVec 32 := Scalar.addi c0_i32_225 v169
  let c1_i32_226 : BitVec 32 := 1#32
  let v171 : BitVec 32 := Scalar.muli v7 c1_i32_226
  let v172 : BitVec 32 := Scalar.addi v170 v171
  v172.toNat
def k0_dev7 (d0 : Dev nD) (v7 : BitVec 32) : Nat :=
  let c0_i32_257 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_256 : BitVec 32 := 2#32
  let v205 : BitVec 32 := Scalar.muli v2 c2_i32_256
  let v206 : BitVec 32 := Scalar.addi c0_i32_257 v205
  let c1_i32_258 : BitVec 32 := 1#32
  let v207 : BitVec 32 := Scalar.muli v7 c1_i32_258
  let v208 : BitVec 32 := Scalar.addi v206 v207
  v208.toNat
def k0_dev8 (d0 : Dev nD) (v7 : BitVec 32) : Nat :=
  let c0_i32_289 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_288 : BitVec 32 := 2#32
  let v241 : BitVec 32 := Scalar.muli v2 c2_i32_288
  let v242 : BitVec 32 := Scalar.addi c0_i32_289 v241
  let c1_i32_290 : BitVec 32 := 1#32
  let v243 : BitVec 32 := Scalar.muli v7 c1_i32_290
  let v244 : BitVec 32 := Scalar.addi v242 v243
  v244.toNat
def k0_dev9 (d0 : Dev nD) (v7 : BitVec 32) : Nat :=
  let c0_i32_321 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_320 : BitVec 32 := 2#32
  let v277 : BitVec 32 := Scalar.muli v2 c2_i32_320
  let v278 : BitVec 32 := Scalar.addi c0_i32_321 v277
  let c1_i32_322 : BitVec 32 := 1#32
  let v279 : BitVec 32 := Scalar.muli v7 c1_i32_322
  let v280 : BitVec 32 := Scalar.addi v278 v279
  v280.toNat
def k0_dev10 (d0 : Dev nD) (v7 : BitVec 32) : Nat :=
  let c0_i32_353 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_352 : BitVec 32 := 2#32
  let v313 : BitVec 32 := Scalar.muli v2 c2_i32_352
  let v314 : BitVec 32 := Scalar.addi c0_i32_353 v313
  let c1_i32_354 : BitVec 32 := 1#32
  let v315 : BitVec 32 := Scalar.muli v7 c1_i32_354
  let v316 : BitVec 32 := Scalar.addi v314 v315
  v316.toNat
def k0_dev11 (d0 : Dev nD) (v7 : BitVec 32) : Nat :=
  let c0_i32_385 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_384 : BitVec 32 := 2#32
  let v349 : BitVec 32 := Scalar.muli v2 c2_i32_384
  let v350 : BitVec 32 := Scalar.addi c0_i32_385 v349
  let c1_i32_386 : BitVec 32 := 1#32
  let v351 : BitVec 32 := Scalar.muli v7 c1_i32_386
  let v352 : BitVec 32 := Scalar.addi v350 v351
  v352.toNat
def k0_dev12 (d0 : Dev nD) (v7 : BitVec 32) : Nat :=
  let c0_i32_417 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_416 : BitVec 32 := 2#32
  let v385 : BitVec 32 := Scalar.muli v2 c2_i32_416
  let v386 : BitVec 32 := Scalar.addi c0_i32_417 v385
  let c1_i32_418 : BitVec 32 := 1#32
  let v387 : BitVec 32 := Scalar.muli v7 c1_i32_418
  let v388 : BitVec 32 := Scalar.addi v386 v387
  v388.toNat
def k0_dev13 (d0 : Dev nD) (v7 : BitVec 32) : Nat :=
  let c0_i32_449 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_448 : BitVec 32 := 2#32
  let v421 : BitVec 32 := Scalar.muli v2 c2_i32_448
  let v422 : BitVec 32 := Scalar.addi c0_i32_449 v421
  let c1_i32_450 : BitVec 32 := 1#32
  let v423 : BitVec 32 := Scalar.muli v7 c1_i32_450
  let v424 : BitVec 32 := Scalar.addi v422 v423
  v424.toNat
def k0_dev14 (d0 : Dev nD) (v7 : BitVec 32) : Nat :=
  let c0_i32_481 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_480 : BitVec 32 := 2#32
  let v457 : BitVec 32 := Scalar.muli v2 c2_i32_480
  let v458 : BitVec 32 := Scalar.addi c0_i32_481 v457
  let c1_i32_482 : BitVec 32 := 1#32
  let v459 : BitVec 32 := Scalar.muli v7 c1_i32_482
  let v460 : BitVec 32 := Scalar.addi v458 v459
  v460.toNat
def k0_dev15 (d0 : Dev nD) (v7 : BitVec 32) : Nat :=
  let c0_i32_513 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_512 : BitVec 32 := 2#32
  let v493 : BitVec 32 := Scalar.muli v2 c2_i32_512
  let v494 : BitVec 32 := Scalar.addi c0_i32_513 v493
  let c1_i32_514 : BitVec 32 := 1#32
  let v495 : BitVec 32 := Scalar.muli v7 c1_i32_514
  let v496 : BitVec 32 := Scalar.addi v494 v495
  v496.toNat
def k0_dev16 (d0 : Dev nD) (v7 : BitVec 32) : Nat :=
  let c0_i32_545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_544 : BitVec 32 := 2#32
  let v529 : BitVec 32 := Scalar.muli v2 c2_i32_544
  let v530 : BitVec 32 := Scalar.addi c0_i32_545 v529
  let c1_i32_546 : BitVec 32 := 1#32
  let v531 : BitVec 32 := Scalar.muli v7 c1_i32_546
  let v532 : BitVec 32 := Scalar.addi v530 v531
  v532.toNat
def k0_dev17 (d0 : Dev nD) (v7 : BitVec 32) : Nat :=
  let c0_i32_574 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_573 : BitVec 32 := 2#32
  let v559 : BitVec 32 := Scalar.muli v2 c2_i32_573
  let v560 : BitVec 32 := Scalar.addi c0_i32_574 v559
  let c1_i32_575 : BitVec 32 := 1#32
  let v561 : BitVec 32 := Scalar.muli v7 c1_i32_575
  let v562 : BitVec 32 := Scalar.addi v560 v561
  v562.toNat

def k0_chk1 (d0 : Dev nD) (v7 : BitVec 32) : Prop :=
  (∀ (k0_h2 : k0_cond2 d0 v7 = 1#1), (k0_dev1 d0 v7) < nD) ∧
  (∀ (k0_h2 : k0_cond2 d0 v7 = 1#1), (k0_dev2 d0 v7) < nD) ∧
  (∀ (k0_h2 : k0_cond2 d0 v7 = 1#1), (k0_dev3 d0 v7) < nD) ∧
  (∀ (k0_h2 : k0_cond2 d0 v7 = 1#1), (k0_dev4 d0 v7) < nD) ∧
  (∀ (k0_h2 : k0_cond2 d0 v7 = 1#1), (k0_dev5 d0 v7) < nD) ∧
  (∀ (k0_h2 : k0_cond2 d0 v7 = 1#1), (k0_dev6 d0 v7) < nD) ∧
  (∀ (k0_h2 : k0_cond2 d0 v7 = 1#1), (k0_dev7 d0 v7) < nD) ∧
  (∀ (k0_h2 : k0_cond2 d0 v7 = 1#1), (k0_dev8 d0 v7) < nD) ∧
  (∀ (k0_h2 : k0_cond2 d0 v7 = 1#1), (k0_dev9 d0 v7) < nD) ∧
  (∀ (k0_h2 : k0_cond2 d0 v7 = 1#1), (k0_dev10 d0 v7) < nD) ∧
  (∀ (k0_h2 : k0_cond2 d0 v7 = 1#1), (k0_dev11 d0 v7) < nD) ∧
  (∀ (k0_h2 : k0_cond2 d0 v7 = 1#1), (k0_dev12 d0 v7) < nD) ∧
  (∀ (k0_h2 : k0_cond2 d0 v7 = 1#1), (k0_dev13 d0 v7) < nD) ∧
  (∀ (k0_h2 : k0_cond2 d0 v7 = 1#1), (k0_dev14 d0 v7) < nD) ∧
  (∀ (k0_h2 : k0_cond2 d0 v7 = 1#1), (k0_dev15 d0 v7) < nD) ∧
  (∀ (k0_h2 : k0_cond2 d0 v7 = 1#1), (k0_dev16 d0 v7) < nD) ∧
  (∀ (k0_h2 : k0_cond2 d0 v7 = 1#1), (k0_dev17 d0 v7) < nD)
theorem k0_dev1_lt : ∀ (d0 : Dev nD) (v7 : BitVec 32) (k0_hw1 : k0_chk1 d0 v7), ∀ (k0_h2 : k0_cond2 d0 v7 = 1#1), (k0_dev1 d0 v7) < nD := fun d0 v7 k0_hw1 k0_h2 => k0_hw1.1 k0_h2
theorem k0_dev2_lt : ∀ (d0 : Dev nD) (v7 : BitVec 32) (k0_hw1 : k0_chk1 d0 v7), ∀ (k0_h2 : k0_cond2 d0 v7 = 1#1), (k0_dev2 d0 v7) < nD := fun d0 v7 k0_hw1 k0_h2 => k0_hw1.2.1 k0_h2
theorem k0_dev3_lt : ∀ (d0 : Dev nD) (v7 : BitVec 32) (k0_hw1 : k0_chk1 d0 v7), ∀ (k0_h2 : k0_cond2 d0 v7 = 1#1), (k0_dev3 d0 v7) < nD := fun d0 v7 k0_hw1 k0_h2 => k0_hw1.2.2.1 k0_h2
theorem k0_dev4_lt : ∀ (d0 : Dev nD) (v7 : BitVec 32) (k0_hw1 : k0_chk1 d0 v7), ∀ (k0_h2 : k0_cond2 d0 v7 = 1#1), (k0_dev4 d0 v7) < nD := fun d0 v7 k0_hw1 k0_h2 => k0_hw1.2.2.2.1 k0_h2
theorem k0_dev5_lt : ∀ (d0 : Dev nD) (v7 : BitVec 32) (k0_hw1 : k0_chk1 d0 v7), ∀ (k0_h2 : k0_cond2 d0 v7 = 1#1), (k0_dev5 d0 v7) < nD := fun d0 v7 k0_hw1 k0_h2 => k0_hw1.2.2.2.2.1 k0_h2
theorem k0_dev6_lt : ∀ (d0 : Dev nD) (v7 : BitVec 32) (k0_hw1 : k0_chk1 d0 v7), ∀ (k0_h2 : k0_cond2 d0 v7 = 1#1), (k0_dev6 d0 v7) < nD := fun d0 v7 k0_hw1 k0_h2 => k0_hw1.2.2.2.2.2.1 k0_h2
theorem k0_dev7_lt : ∀ (d0 : Dev nD) (v7 : BitVec 32) (k0_hw1 : k0_chk1 d0 v7), ∀ (k0_h2 : k0_cond2 d0 v7 = 1#1), (k0_dev7 d0 v7) < nD := fun d0 v7 k0_hw1 k0_h2 => k0_hw1.2.2.2.2.2.2.1 k0_h2
theorem k0_dev8_lt : ∀ (d0 : Dev nD) (v7 : BitVec 32) (k0_hw1 : k0_chk1 d0 v7), ∀ (k0_h2 : k0_cond2 d0 v7 = 1#1), (k0_dev8 d0 v7) < nD := fun d0 v7 k0_hw1 k0_h2 => k0_hw1.2.2.2.2.2.2.2.1 k0_h2
theorem k0_dev9_lt : ∀ (d0 : Dev nD) (v7 : BitVec 32) (k0_hw1 : k0_chk1 d0 v7), ∀ (k0_h2 : k0_cond2 d0 v7 = 1#1), (k0_dev9 d0 v7) < nD := fun d0 v7 k0_hw1 k0_h2 => k0_hw1.2.2.2.2.2.2.2.2.1 k0_h2
theorem k0_dev10_lt : ∀ (d0 : Dev nD) (v7 : BitVec 32) (k0_hw1 : k0_chk1 d0 v7), ∀ (k0_h2 : k0_cond2 d0 v7 = 1#1), (k0_dev10 d0 v7) < nD := fun d0 v7 k0_hw1 k0_h2 => k0_hw1.2.2.2.2.2.2.2.2.2.1 k0_h2
theorem k0_dev11_lt : ∀ (d0 : Dev nD) (v7 : BitVec 32) (k0_hw1 : k0_chk1 d0 v7), ∀ (k0_h2 : k0_cond2 d0 v7 = 1#1), (k0_dev11 d0 v7) < nD := fun d0 v7 k0_hw1 k0_h2 => k0_hw1.2.2.2.2.2.2.2.2.2.2.1 k0_h2
theorem k0_dev12_lt : ∀ (d0 : Dev nD) (v7 : BitVec 32) (k0_hw1 : k0_chk1 d0 v7), ∀ (k0_h2 : k0_cond2 d0 v7 = 1#1), (k0_dev12 d0 v7) < nD := fun d0 v7 k0_hw1 k0_h2 => k0_hw1.2.2.2.2.2.2.2.2.2.2.2.1 k0_h2
theorem k0_dev13_lt : ∀ (d0 : Dev nD) (v7 : BitVec 32) (k0_hw1 : k0_chk1 d0 v7), ∀ (k0_h2 : k0_cond2 d0 v7 = 1#1), (k0_dev13 d0 v7) < nD := fun d0 v7 k0_hw1 k0_h2 => k0_hw1.2.2.2.2.2.2.2.2.2.2.2.2.1 k0_h2
theorem k0_dev14_lt : ∀ (d0 : Dev nD) (v7 : BitVec 32) (k0_hw1 : k0_chk1 d0 v7), ∀ (k0_h2 : k0_cond2 d0 v7 = 1#1), (k0_dev14 d0 v7) < nD := fun d0 v7 k0_hw1 k0_h2 => k0_hw1.2.2.2.2.2.2.2.2.2.2.2.2.2.1 k0_h2
theorem k0_dev15_lt : ∀ (d0 : Dev nD) (v7 : BitVec 32) (k0_hw1 : k0_chk1 d0 v7), ∀ (k0_h2 : k0_cond2 d0 v7 = 1#1), (k0_dev15 d0 v7) < nD := fun d0 v7 k0_hw1 k0_h2 => k0_hw1.2.2.2.2.2.2.2.2.2.2.2.2.2.2.1 k0_h2
theorem k0_dev16_lt : ∀ (d0 : Dev nD) (v7 : BitVec 32) (k0_hw1 : k0_chk1 d0 v7), ∀ (k0_h2 : k0_cond2 d0 v7 = 1#1), (k0_dev16 d0 v7) < nD := fun d0 v7 k0_hw1 k0_h2 => k0_hw1.2.2.2.2.2.2.2.2.2.2.2.2.2.2.2.1 k0_h2
theorem k0_dev17_lt : ∀ (d0 : Dev nD) (v7 : BitVec 32) (k0_hw1 : k0_chk1 d0 v7), ∀ (k0_h2 : k0_cond2 d0 v7 = 1#1), (k0_dev17 d0 v7) < nD := fun d0 v7 k0_hw1 k0_h2 => k0_hw1.2.2.2.2.2.2.2.2.2.2.2.2.2.2.2.2 k0_h2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2 : Shape := ⟨1, ![2]⟩
abbrev S_ : Shape := ⟨0, ![]⟩
abbrev S2x1 : Shape := ⟨2, ![2, 1]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x4096x2048, .f32⟩
  | .hbm, ⟨14, _⟩ => ⟨S2x4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.KeepFacts.lean ====
/- The side conditions of the second precondition's slices and reshapes. -/
module

public import proofs.«01_k».proof.Pre_keeps_Kernel
public import proofs.«01_k».proof.Pre_keeps_ReferenceIdeal

@[expose] public section

namespace Cert.Proof

instance keeps_facts : Cert.Pre_keeps_Kernel.Facts where
  slices_S2_S1_0 := by decide
  shapeCasts_S1_S_ := by decide
  slices_S2_S1_1 := by decide

instance keeps_ref_facts : Cert.Pre_keeps_ReferenceIdeal.Facts where
  slices_S2_S1_0 := by decide
  shapeCasts_S1_S_ := by decide
  slices_S2_S1_1 := by decide

end Cert.Proof
-- ==== Proof.Loop.lean ====
/- The exchange as a loop over the sixteen chunks of rows.

   The kernel's body is unrolled. This module names its slices, semaphores and steps once, at a chunk
   number `k`, and states that the branch the body takes when the two columns swap is the loop over
   them. The rest of the proof reasons about one chunk. -/
module

public import proofs.«01_k».proof.Proof.Gen.Kernel
public import proofs.«01_k».proof.Proof.Gen.Kernel.Skeleton
public import proofs.«01_k».proof.Proof.Gen.Kernel.Launch
public import Idealize.ShloMosaic.Lib.Pipeline.Launch
public import Idealize.ShloMosaic.Lib.Pipeline.Regions
public import Idealize.ShloMosaic.Lib.Tactic

@[expose] public section

noncomputable section

namespace Cert.Proof.Swap

open Cert.Kernel Cert.Kernel.Gen
open Idealize.ShloMosaic Idealize.SL.Sem

variable {F : FTy → Type} [FloatOps F]

/-! ## The slices -/

theorem chunk_inb (k : Nat) : ∀ a, (![0, 256 * (k % 16), 0] : Fin 3 → Nat) a + S1x256x2048.size a ≤ S1x4096x2048.size a := by
  have := Nat.mod_lt k (show 0 < 16 by decide)
  intro a; fin_cases a
  · show 0 + 1 ≤ 1; omega
  · show 256 * (k % 16) + 256 ≤ 4096; omega
  · show 0 + 2048 ≤ 2048; omega
theorem in_inb (k : Nat) : ∀ a, (![k % 2, 0, 0] : Fin 3 → Nat) a + S1x256x2048.size a ≤ S2x256x2048.size a := by
  have := Nat.mod_lt k (show 0 < 2 by decide)
  intro a; fin_cases a
  · show k % 2 + 1 ≤ 2; omega
  · show 0 + 256 ≤ 256; omega
  · show 0 + 2048 ≤ 2048; omega
theorem slot_inb (k : Nat) : ∀ a, (![k % 4, 0, 0] : Fin 3 → Nat) a + S1x256x2048.size a ≤ S4x256x2048.size a := by
  have := Nat.mod_lt k (show 0 < 4 by decide)
  intro a; fin_cases a
  · show k % 4 + 1 ≤ 4; omega
  · show 0 + 256 ≤ 256; omega
  · show 0 + 2048 ≤ 2048; omega

/-- The rows of chunk `k` of an array of 4096 rows. -/
abbrev chunkR (k : Nat) : Rect S1x4096x2048 := Rect.unit (s := S1x4096x2048) ![0, 256 * (k % 16), 0] S1x256x2048.size (chunk_inb k)
/-- The slot chunk `k` is fetched into. -/
abbrev inR (k : Nat) : Rect S2x256x2048 := Rect.unit (s := S2x256x2048) ![k % 2, 0, 0] S1x256x2048.size (in_inb k)
/-- The slot chunk `k` is sent from. -/
abbrev slotR (k : Nat) : Rect S4x256x2048 := Rect.unit (s := S4x256x2048) ![k % 4, 0, 0] S1x256x2048.size (slot_inb k)

theorem chunk_words (k : Nat) : (chunkR k).WholeWords (EltTy.packing .bf16) :=
  (by decide : ∀ j : Fin 16, (Rect.unit (s := S1x4096x2048) ![0, 256 * (j.val % 16), 0] S1x256x2048.size (chunk_inb j.val)).WholeWords (EltTy.packing .bf16))
    ⟨k % 16, Nat.mod_lt _ (by decide)⟩ |> fun h => by
      simp only [Nat.mod_mod] at h; exact h
theorem slot_words (k : Nat) : (slotR k).WholeWords (EltTy.packing .bf16) :=
  (by decide : ∀ j : Fin 4, (Rect.unit (s := S4x256x2048) ![j.val % 4, 0, 0] S1x256x2048.size (slot_inb j.val)).WholeWords (EltTy.packing .bf16))
    ⟨k % 4, Nat.mod_lt _ (by decide)⟩ |> fun h => by
      simp only [Nat.mod_mod] at h; exact h
theorem slot_packed (k : Nat) : (slotR k).PackedRows (EltTy.packing .bf16) :=
  (by decide : ∀ j : Fin 4, (Rect.unit (s := S4x256x2048) ![j.val % 4, 0, 0] S1x256x2048.size (slot_inb j.val)).PackedRows (EltTy.packing .bf16))
    ⟨k % 4, Nat.mod_lt _ (by decide)⟩ |> fun h => by
      simp only [Nat.mod_mod] at h; exact h

abbrev xM : Memref sig .tc .hbm S1x4096x2048 .f32 := Memref.whole main_arg0
abbrev yM : Memref sig .tc .hbm S1x4096x2048 .bf16 := Memref.whole main_v1
abbrev inM : Memref sig .tc .vmem S2x256x2048 .f32 := Memref.whole cc0_scratch0
abbrev slotM : Memref sig .tc .vmem S4x256x2048 .bf16 := Memref.whole cc0_scratch1

/-- Chunk `k` of the argument. -/
def xC (k : Nat) : Memref sig .tc .hbm S256x2048 .f32 :=
  (xM.slice (chunkR k) (fun _ => rfl)).squeeze S256x2048 squeezes_S1x256x2048_S256x2048
/-- Chunk `k` of the result. -/
def yC (k : Nat) : Memref sig .tc .hbm S256x2048 .bf16 :=
  (yM.slice (chunkR k) (fun _ => rfl)).squeeze S256x2048 squeezes_S1x256x2048_S256x2048
/-- The slot chunk `k` is fetched into. -/
def inS (k : Nat) : Memref sig .tc .vmem S256x2048 .f32 :=
  (inM.slice (inR k) (fun _ => rfl)).squeeze S256x2048 squeezes_S1x256x2048_S256x2048
/-- The slot chunk `k` is sent from. -/
def slotS (k : Nat) : Memref sig .tc .vmem S256x2048 .bf16 :=
  (slotM.slice (slotR k) (fun _ => rfl)).squeeze S256x2048 squeezes_S1x256x2048_S256x2048

theorem xC_exact (k : Nat) : (xC k).view.WordExact := View.wordExact_bits rfl
theorem inS_exact (k : Nat) : (inS k).view.WordExact := View.wordExact_bits rfl
theorem yC_exact (k : Nat) : (yC k).view.WordExact := ((Memref.isWhole_whole main_v1).wordExact_slice rfl _ (chunk_words k)).reshape _ _
theorem slotS_exact (k : Nat) : (slotS k).view.WordExact := ((Memref.isWhole_whole cc0_scratch1).wordExact_slice rfl _ (slot_words k)).reshape _ _

/-! ## The semaphores -/

/-- The fetch of chunk `k` completes on it. -/
def inSem (k : Nat) : DmaSem sig := (⟨1 + k % 2, by have := Nat.mod_lt k (show 0 < 2 by decide); omega⟩ : Fin 23)
/-- The source of chunk `k`'s copy is free again on it. -/
def sendSem (k : Nat) : DmaSem sig := (⟨3 + k % 4, by have := Nat.mod_lt k (show 0 < 4 by decide); omega⟩ : Fin 23)
/-- Chunk `k` has arrived on it. -/
def recvSem (k : Nat) : DmaSem sig := (⟨7 + k % 16, by have := Nat.mod_lt k (show 0 < 16 by decide); omega⟩ : Fin 23)
/-- The runtime's barrier semaphore. -/
abbrev barSem : Sem sig := sig.barrier 0 rfl

/-! ## The steps -/

abbrev PP (F : FTy → Type) [FloatOps F] : Type 1 := Prog (TpuEff nD τ sig (Elt F) Λ₀ .tc) PUnit

def fetch (k : Nat) : PP F :=
  Prog.lift (.enqueueDma (xC k) (.here (inS k)) (.dma (inSem k)) (xC_exact k) (inS_exact k) ⟨Or.inl rfl, trivial⟩)
def fetched (k : Nat) : PP F := Prog.lift (.waitDma2 (inSem k) (xC k) (inS k) (xC_exact k) (inS_exact k))

/-- Rows rounded to the result's format, as stored. -/
def pay (v : Vec F S1x256x2048 .f32) : FVec F S1x256x2048 .bf16 :=
  shapeCast S1x256x2048 (truncf .bf16 (shapeCast S256x2048 v shapeCasts_S1x256x2048_S256x2048) bitsLt_bf16_f32) shapeCasts_S256x2048_S1x256x2048

def round (k : Nat) : PP F := do
  let v : Vec F S1x256x2048 .f32 ← Prog.lift (.load inM (inR k).toLoadRect (View.loadsAt_vmem h_S1x256x2048))
  let _ : Vec F S1x256x2048 .bf16 ← Prog.lift (.load slotM (slotR k).toLoadRect (View.loadsAt_vmem h_S1x256x2048))
  Prog.lift (.store slotM (slotR k) (pay v) Finset.univ
    (View.stores_vmem h_S1x256x2048 ((Memref.isWhole_whole cc0_scratch1).storeExact_slice rfl _ (slot_packed k)) (fun _ => rfl)) (.inl rfl))

def send (d : Dev nD) (k : Nat) : PP F :=
  Prog.lift (.enqueueDma (slotS k) (.remote (Dev.tc d) (yC k) (.dma (sendSem k))) (.dma (recvSem k)) (slotS_exact k) (yC_exact k) ⟨⟨rfl, Or.inl rfl⟩, trivial⟩)
def sent (k : Nat) : PP F := Prog.lift (.waitDma2 (sendSem k) (yC k) (slotS k) (yC_exact k) (slotS_exact k))
def arrived (k : Nat) : PP F := Prog.lift (.waitDma2 (recvSem k) (slotS k) (yC k) (slotS_exact k) (yC_exact k))

/-- `f k`, `f (k + 1)`, …, `n` of them. -/
def upto (f : Nat → PP F) : Nat → Nat → PP F
  | 0, _ => pure ⟨⟩
  | n + 1, k => f k >>= fun _ => upto f n (k + 1)

/-- The next chunk's rows are asked for, if there is a next chunk. -/
def ask (k : Nat) : PP F := if k + 1 < 16 then fetch (k + 1) else pure ⟨⟩
/-- The copy that used chunk `k`'s slot is over, if there was one. -/
def vacate (k : Nat) : PP F := if 4 ≤ k then sent (k - 4) else pure ⟨⟩

/-- What comes before chunk `k`'s rounding: its rows are in, the next chunk's are asked for, its slot is free. -/
def front (k : Nat) : PP F := do
  fetched k
  ask k
  vacate k

/-- One chunk after the first. -/
def chunk (d : Dev nD) (k : Nat) : PP F := do
  front k
  round k
  send d k

/-- The exchange with the device `d`. -/
def exchange (d : Dev nD) : PP F := do
  fetch 0
  semSignalWord d barSem 1#32
  front 0
  round 0
  semWaitWord barSem 1#32
  send d 0
  upto (chunk d) 15 1
  upto sent 4 12
  upto arrived 16 0

/-- The device the body addresses: the one in the same row of the mesh whose column is the word read. -/
abbrev dest (d0 : Dev nD) (v7 : BitVec 32) (hw : k0_chk1 d0 v7) (h2 : k0_cond2 d0 v7 = 1#1) : Dev nD :=
  ⟨k0_dev1 d0 v7, k0_dev1_lt d0 v7 hw h2⟩

set_option maxRecDepth 65536 in
/-- The branch taken when the word read is another column: the exchange. -/
theorem branch_eq (arg0 : Memref sig .tc .smem S2 .i32) (harg0 : arg0.IsWhole) (d0 : Dev nD) (v2 v5 v7 v9 : BitVec 32)
    (hw : k0_chk1 d0 v7) (h2 : k0_cond2 d0 v7 = 1#1) (h9 : ¬ Scalar.cmpi .ne v9 0#32 = 1#1) :
    k0_part45 (F := F) arg0 harg0 xM (Memref.isWhole_whole _) yM (Memref.isWhole_whole _) inM (Memref.isWhole_whole _)
      slotM (Memref.isWhole_whole _) cc0_scratch2 cc0_scratch3 cc0_scratch4 d0 v2 v5 v7 hw v9 = exchange (dest d0 v7 hw h2) := by
  unfold k0_part45
  dsimp only
  rw [if_neg h9, dif_pos h2]
  chain_rfl

end Cert.Proof.Swap

end
-- ==== Proof.Sched.lean ====
/- Who pays what to whom: the contents, the cells of the exchange, their schedule, what a device owes, the order of the waits. -/
module

public import proofs.«01_k».proof.Proof.Loop
public import proofs.«01_k».proof.Proof.Gen.Kernel.Points
public import proofs.«01_k».proof.Proof.Gen.Kernel.Frame
public import Idealize.ShloMosaic.Lib.Rounds
public import Idealize.ShloMosaic.Lib.Transfers
public import Idealize.ShloMosaic.Lib.Pipeline.Kit
public import Idealize.ShloMosaic.Lib.Writes

@[expose] public section

noncomputable section

namespace Cert.Proof.Swap

open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) Unit
abbrev UU : Type := UR sig nD τ × (UB × Counters)

local notation "𝕄" => MT nD τ sig Unit (Elt F) ℕ UU ℕ

/-- The pipeline's rounds, the exchange's rounds, the counters of the fetches. -/
abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ)

/-! ## The partner -/

/-- The device of the other column in the same row of the mesh. -/
def peer (c : Dev nD) : Dev nD := ⟨c.val / 2 * 2 + (1 - c.val % 2), by have : c.val < 4 := c.isLt; show _ < 4; omega⟩
theorem peer_peer (c : Dev nD) : peer (peer c) = c := by revert c; decide
def pair : Dev nD ≃ Dev nD := ⟨peer, peer, peer_peer, peer_peer⟩

/-! ## The cells -/

abbrev barCell (c : Dev nD) : GSem nD τ sig := ((c.tc : Thread nD τ), .reg barSem)
abbrev inCell (c : Dev nD) (k : Nat) : GSem nD τ sig := ((c.tc : Thread nD τ), .dma (inSem k))
abbrev sendCell (c : Dev nD) (k : Nat) : GSem nD τ sig := ((c.tc : Thread nD τ), .dma (sendSem k))
abbrev recvCell (c : Dev nD) (k : Nat) : GSem nD τ sig := ((c.tc : Thread nD τ), .dma (recvSem k))

theorem inSem_val (k : Nat) : (inSem k).val = 1 + k % 2 := rfl
theorem sendSem_val (k : Nat) : (sendSem k).val = 3 + k % 4 := rfl
theorem recvSem_val (k : Nat) : (recvSem k).val = 7 + k % 16 := rfl

/-- One chunk's credit on the semaphores of the copy between devices, and of a fetch. -/
abbrev N : ℕ := (yC 0).view.dmaCredit
abbrev NI : ℕ := (inS 0).view.dmaCredit
theorem N_pos : 0 < N := View.dmaCredit_pos _ (by decide)
theorem NI_pos : 0 < NI := View.dmaCredit_pos _ (by decide)
theorem credit_y (k : Nat) : (yC k).view.dmaCredit = N := rfl
theorem credit_slot (k : Nat) : (slotS k).view.dmaCredit = N := rfl
theorem credit_in (k : Nat) : (inS k).view.dmaCredit = NI := rfl

/-! ## The contents -/

/-- The argument of device `c` at the launch. -/
abbrev X (c : Dev nD) : Buf (Elt F) ((c.tc : Thread nD τ).loc main_arg0) := m ((c.tc : Thread nD τ).loc main_arg0)
/-- The result of device `c`: its partner's argument in the narrower format. -/
def res (c : Dev nD) : Buf (Elt F) ((c.tc : Thread nD τ).loc main_v1) :=
  (truncf .bf16 (X m (peer c) : FVec F S1x4096x2048 .f32) bitsLt_bf16_f32 : FVec F S1x4096x2048 .bf16)
/-- What device `c` sends as chunk `k`. -/
def rows (c : Dev nD) (k : Nat) : S256x2048.Idx → Elt F .bf16 :=
  (truncf .bf16 ((xC k).view.read (Elt F) (X m c) : FVec F S256x2048 .f32) bitsLt_bf16_f32 : FVec F S256x2048 .bf16)

theorem res_rows (c : Dev nD) (k : Nat) : (yC k).view.read (Elt F) (res m c) = rows m (peer c) k := rfl

/-! ## The buffers' pieces -/

/-- The elements of chunk `k` of the argument or of the result (the buffers have one shape), of its two slots. -/
def cSet (k : Nat) : Finset S1x4096x2048.Idx := (chunkR k).set
def inSet (k : Nat) : Finset S2x256x2048.Idx := (inR k).set
def slotSet (k : Nat) : Finset S4x256x2048.Idx := (slotR k).set

theorem set_xC (k : Nat) : (xC k).view.set = cSet k :=
  (View.set_reshape _ _).trans ((View.set_slice _ _).trans Finset.map_refl)
theorem set_yC (k : Nat) : (yC k).view.set = cSet k :=
  (View.set_reshape _ _).trans ((View.set_slice _ _).trans Finset.map_refl)
theorem set_inS (k : Nat) : (inS k).view.set = inSet k :=
  (View.set_reshape _ _).trans ((View.set_slice _ _).trans Finset.map_refl)
theorem set_slotS (k : Nat) : (slotS k).view.set = slotSet k :=
  (View.set_reshape _ _).trans ((View.set_slice _ _).trans Finset.map_refl)

theorem slotR_congr {j k : Nat} (h : j % 4 = k % 4) : slotR j = slotR k := by
  unfold slotR
  generalize slot_inb j = p; generalize slot_inb k = q
  revert p q; rw [h]; intro p q; rfl
theorem inR_congr {j k : Nat} (h : j % 2 = k % 2) : inR j = inR k := by
  unfold inR
  generalize in_inb j = p; generalize in_inb k = q
  revert p q; rw [h]; intro p q; rfl
theorem chunkR_congr {j k : Nat} (h : j % 16 = k % 16) : chunkR j = chunkR k := by
  unfold chunkR
  generalize chunk_inb j = p; generalize chunk_inb k = q
  revert p q; rw [h]; intro p q; rfl
theorem slotSet_congr {j k : Nat} (h : j % 4 = k % 4) : slotSet j = slotSet k := by unfold slotSet; rw [slotR_congr h]
theorem inSet_congr {j k : Nat} (h : j % 2 = k % 2) : inSet j = inSet k := by unfold inSet; rw [inR_congr h]
theorem cSet_congr {j k : Nat} (h : j % 16 = k % 16) : cSet j = cSet k := by unfold cSet; rw [chunkR_congr h]

def xPt (c : Dev nD) (k : Nat) (f : Buf (Elt F) ((c.tc : Thread nD τ).loc main_arg0)) : sProp 𝕄 :=
  (c.tc : Thread nD τ).loc main_arg0 ↦[cSet k]{fullShare} f
def yPt (c : Dev nD) (k : Nat) (f : Buf (Elt F) ((c.tc : Thread nD τ).loc main_v1)) : sProp 𝕄 :=
  (c.tc : Thread nD τ).loc main_v1 ↦[cSet k]{fullShare} f
def inPt (c : Dev nD) (k : Nat) (f : Buf (Elt F) ((c.tc : Thread nD τ).loc cc0_scratch0)) : sProp 𝕄 :=
  (c.tc : Thread nD τ).loc cc0_scratch0 ↦[inSet k]{fullShare} f
def slotPt (c : Dev nD) (k : Nat) (f : Buf (Elt F) ((c.tc : Thread nD τ).loc cc0_scratch1)) : sProp 𝕄 :=
  (c.tc : Thread nD τ).loc cc0_scratch1 ↦[slotSet k]{fullShare} f

instance yPt_storable (c : Dev nD) (k : Nat) (f) : BI.Storable (upEmb : UEmb _ 𝕄) (yPt (F := F) c k f) := by unfold yPt; infer_instance
instance slotPt_storable (c : Dev nD) (k : Nat) (f) : BI.Storable (upEmb : UEmb _ 𝕄) (slotPt (F := F) c k f) := by unfold slotPt; infer_instance

/-! ## The schedule -/

/-- The partner's signal hands over the partner's result buffer; -/
def barPay (c : Dev nD) : sProp 𝕄 := iprop(∃ f, ((peer c).tc : Thread nD τ).loc main_v1 ↦{fullShare} f)
/-- a send completed gives the slot back; -/
def sendPay (c : Dev nD) (k : Nat) : sProp 𝕄 := iprop(∃ f, slotPt (F := F) c k f)
/-- an arrival is the result's rows. -/
def recvPay (c : Dev nD) (k : Nat) : sProp 𝕄 := yPt c k (res m c)

instance barPay_storable (c : Dev nD) : BI.Storable (upEmb : UEmb _ 𝕄) (barPay (F := F) c) := by unfold barPay; infer_instance
instance sendPay_storable (c : Dev nD) (k : Nat) : BI.Storable (upEmb : UEmb _ 𝕄) (sendPay (F := F) c k) := by unfold sendPay; infer_instance
instance recvPay_storable (c : Dev nD) (k : Nat) : BI.Storable (upEmb : UEmb _ 𝕄) (recvPay (F := F) m c k) := by unfold recvPay; infer_instance

/-- The number of rounds of a semaphore: one on the barrier, four on a slot's, one on a chunk's arrival. -/
def roundsOf : SemLoc sig → ℕ
  | .reg s => if s = barSem then 1 else 0
  | .dma q => if 7 ≤ q.val then 1 else if 3 ≤ q.val then 4 else 0

def amountOn : SemLoc sig → ℕ
  | .reg _ => 1
  | .dma _ => N

def payOn (c : Dev nD) : SemLoc sig → sProp 𝕄
  | .reg _ => barPay c
  | .dma q => if 7 ≤ q.val then recvPay m c (q.val - 7) else sendPay c (q.val - 3)

instance payOn_storable (c : Dev nD) (s : SemLoc sig) : BI.Storable (upEmb : UEmb _ 𝕄) (payOn (F := F) m c s) := by
  cases s <;> unfold payOn
  · infer_instance
  · dsimp only; split <;> infer_instance

/-- Every round has one duty. -/
def Rd : Rounds.Schedule (GSem nD τ sig) Unit 𝕄 where
  duties g r := if g.1.2 = .tc ∧ r < roundsOf g.2 then {()} else ∅
  unitless _ := False
  amount g _ _ := amountOn g.2
  payload g _ _ := payOn m g.1.1 g.2
  amount_pos g _ _ _ := by
    rcases g with ⟨_, s⟩
    cases s
    · exact Nat.one_pos
    · exact N_pos

instance Rd_payload_storable (g : GSem nD τ sig) (r : ℕ) (d : Unit) :
    BI.Storable (upEmb : UEmb _ 𝕄) ((Rd (F := F) m).payload g r d) := payOn_storable m _ _

section Sched
variable (c : Dev nD) (k : Nat)

theorem roundsOf_bar : roundsOf (.reg barSem) = 1 := by unfold roundsOf; dsimp only; exact if_pos rfl
theorem roundsOf_send : roundsOf (.dma (sendSem k)) = 4 := by
  have := Nat.mod_lt k (show 0 < 4 by decide)
  unfold roundsOf; dsimp only; rw [sendSem_val, if_neg (by omega), if_pos (by omega)]
theorem roundsOf_recv : roundsOf (.dma (recvSem k)) = 1 := by
  unfold roundsOf; dsimp only; rw [recvSem_val, if_pos (by omega)]

theorem duties_of {s : SemLoc sig} {r : ℕ} (h : r < roundsOf s) : (Rd (F := F) m).duties ((c.tc : Thread nD τ), s) r = {()} :=
  if_pos ⟨rfl, h⟩
theorem duties_past {s : SemLoc sig} {r : ℕ} (h : roundsOf s ≤ r) : (Rd (F := F) m).duties ((c.tc : Thread nD τ), s) r = ∅ :=
  if_neg fun hn => absurd hn.2 (Nat.not_lt.mpr h)
theorem mem_of {s : SemLoc sig} {r : ℕ} (h : r < roundsOf s) : () ∈ (Rd (F := F) m).duties ((c.tc : Thread nD τ), s) r := by
  rw [duties_of m c h]; exact Finset.mem_singleton_self _
theorem mem_bar : () ∈ (Rd (F := F) m).duties (barCell c) 0 := mem_of m c (by rw [roundsOf_bar]; decide)
theorem mem_send (h : k < 16) : () ∈ (Rd (F := F) m).duties (sendCell c k) (k / 4) := mem_of m c (by rw [roundsOf_send]; omega)
theorem mem_recv : () ∈ (Rd (F := F) m).duties (recvCell c k) 0 := mem_of m c (by rw [roundsOf_recv]; decide)

theorem expect_of {s : SemLoc sig} {r : ℕ} (h : r < roundsOf s) :
    (Rd (F := F) m).expect ((c.tc : Thread nD τ), s) r = amountOn s := by
  unfold Schedule.expect Schedule.amountOf; rw [duties_of m c h, Finset.sum_singleton]; rfl
theorem rest_of {s : SemLoc sig} {r : ℕ} (h : r < roundsOf s) :
    bigSep ((Rd (F := F) m).duties ((c.tc : Thread nD τ), s) r \ ∅) (fun d => (Rd (F := F) m).payload ((c.tc : Thread nD τ), s) r d)
      = payOn m c s := by
  rw [Finset.sdiff_empty, duties_of m c h, bigSep_singleton]; rfl

theorem payOn_bar : payOn m c (.reg barSem) = barPay c := rfl

theorem sendSem_mod : sendSem (k % 4) = sendSem k := Fin.ext (by rw [sendSem_val, sendSem_val, Nat.mod_mod])
theorem sendSem_add : sendSem (k + 4) = sendSem k := Fin.ext (by rw [sendSem_val, sendSem_val, Nat.add_mod_right])
theorem inSem_add : inSem (k + 2) = inSem k := Fin.ext (by rw [inSem_val, inSem_val, Nat.add_mod_right])

theorem payOn_send : payOn m c (.dma (sendSem k)) = sendPay c k := by
  have := Nat.mod_lt k (show 0 < 4 by decide)
  unfold payOn; dsimp only
  rw [sendSem_val, if_neg (by omega), show 3 + k % 4 - 3 = k % 4 by omega]
  unfold sendPay slotPt; rw [slotSet_congr (Nat.mod_mod k 4)]
theorem payOn_recv : payOn m c (.dma (recvSem k)) = recvPay m c k := by
  unfold payOn; dsimp only
  rw [recvSem_val, if_pos (by omega), show 7 + k % 16 - 7 = k % 16 by omega]
  unfold recvPay yPt; rw [cSet_congr (Nat.mod_mod k 16)]

end Sched

/-! ## What a device owes, and the order of its waits -/

/-- Before chunk `k` a device still owes its partner the arrivals of the chunks from `k` on; -/
def debt (c : Dev nD) (k : Nat) : CellTallies nD τ sig Unit := ∑ j ∈ Finset.Ico k 16, tallyAt (recvCell (peer c) j) () N
/-- at the launch it owes the signal too. -/
def O₀ (c : Dev nD) : CellTallies nD τ sig Unit := debt c 0 + tallyAt (barCell (peer c)) () 1

theorem debt_step (c : Dev nD) (k : Nat) (h : k < 16) : debt c k = debt c (k + 1) + tallyAt (recvCell (peer c) k) () N := by
  unfold debt
  rw [show Finset.Ico k 16 = insert k (Finset.Ico (k + 1) 16) by ext x; simp only [Finset.mem_Ico, Finset.mem_insert]; omega,
    Finset.sum_insert (by rw [Finset.mem_Ico]; omega), add_comm]
theorem debt_end (c : Dev nD) : debt c 16 = 0 := by unfold debt; rw [Finset.Ico_self, Finset.sum_empty]

def L (g : GSem nD τ sig) : Finset Unit := if g.1.2 = .tc then {()} else ∅
/-- Arrivals above the barrier, the barrier above everything else. -/
def lev : SemLoc sig → ℕ
  | .reg _ => 1
  | .dma q => if 7 ≤ q.val then 2 else 0
def lv (g : GSem nD τ sig) (_ : Unit) : ℕ := lev g.2

theorem L_of_ne (g : GSem nD τ sig) (h : g.1.2 ≠ .tc) : L g = ∅ := if_neg h
theorem L_tc (c : Dev nD) (sm : SemLoc sig) : L ((c.tc : Thread nD τ), sm) = {()} := if_pos rfl

theorem lev_recv (k : Nat) : lev (.dma (recvSem k)) = 2 := by unfold lev; dsimp only; rw [recvSem_val, if_pos (by omega)]
theorem lev_send (k : Nat) : lev (.dma (sendSem k)) = 0 := by
  have := Nat.mod_lt k (show 0 < 4 by decide)
  unfold lev; dsimp only; rw [sendSem_val, if_neg (by omega)]
theorem lev_in (k : Nat) : lev (.dma (inSem k)) = 0 := by
  have := Nat.mod_lt k (show 0 < 2 by decide)
  unfold lev; dsimp only; rw [inSem_val, if_neg (by omega)]

theorem debt_pos {c : Dev nD} {k : Nat} {g : GSem nD τ sig} {u : Unit} (h : 0 < debt c k g u) : ∃ j, g = recvCell (peer c) j := by
  unfold debt at h
  rw [Finset.sum_apply, Finsupp.finset_sum_apply] at h
  obtain ⟨j, _, hj⟩ := Finset.exists_ne_zero_of_sum_ne_zero (Nat.pos_iff_ne_zero.mp h)
  rw [tallyAt_apply] at hj
  by_cases he : g = recvCell (peer c) j ∧ u = ()
  · exact ⟨j, he.1⟩
  · rw [if_neg he] at hj; exact absurd rfl hj

theorem O₀_pos {c : Dev nD} {g : GSem nD τ sig} {u : Unit} (h : 0 < O₀ c g u) :
    (∃ j, g = recvCell (peer c) j) ∨ g = barCell (peer c) := by
  unfold O₀ at h
  rw [Pi.add_apply, Finsupp.add_apply, tallyAt_apply] at h
  by_cases hd : 0 < debt c 0 g u
  · exact .inl (debt_pos hd)
  · by_cases he : g = barCell (peer c) ∧ u = ()
    · exact .inr he.1
    · rw [if_neg he] at h; omega

/-- A wait below the arrivals is allowed whatever of the arrivals is still owed; -/
theorem mayWait_debt (c : Dev nD) (s : SemLoc sig) (hs : lev s ≤ 1) (k : Nat) :
    (levAts L lv : sProp 𝕄) ⊢ MayWait (c.tc : Thread nD τ) s () (debt c k) :=
  MayOwe.of_cut (L := L) (lev := lv) 1 (fun p hp => by rw [Finset.mem_singleton.mp hp, L_tc]; exact Finset.mem_singleton_self _)
    (fun g u hg => by obtain ⟨j, rfl⟩ := debt_pos hg; exact Finset.mem_singleton_self _)
    (fun p hp => by rw [Finset.mem_singleton.mp hp]; exact hs)
    (fun g u hg => by obtain ⟨j, rfl⟩ := debt_pos hg; show 1 < lev _; rw [lev_recv]; decide)

/-- a wait below the barrier whatever is owed at the launch; -/
theorem mayWait_O₀ (c : Dev nD) (s : SemLoc sig) (hs : lev s = 0) :
    (levAts L lv : sProp 𝕄) ⊢ MayWait (c.tc : Thread nD τ) s () (O₀ c) :=
  MayOwe.of_cut (L := L) (lev := lv) 0 (fun p hp => by rw [Finset.mem_singleton.mp hp, L_tc]; exact Finset.mem_singleton_self _)
    (fun g u hg => by rcases O₀_pos hg with ⟨j, rfl⟩ | rfl <;> exact Finset.mem_singleton_self _)
    (fun p hp => by rw [Finset.mem_singleton.mp hp]; exact Nat.le_of_eq hs)
    (fun g u hg => by
      rcases O₀_pos hg with ⟨j, rfl⟩ | rfl
      · show 0 < lev _; rw [lev_recv]; decide
      · exact Nat.one_pos)

/-- any wait when nothing is owed. -/
theorem mayWait_zero (c : Dev nD) (s : SemLoc sig) : (levAts L lv : sProp 𝕄) ⊢ MayWait (c.tc : Thread nD τ) s () 0 := by
  rw [MayWait_zero]; iintro -; iempintro

end Cert.Proof.Swap

end
-- ==== Proof.Steps.lean ====
/- Each step of the exchange, at a chunk number: what it takes and what it leaves. -/
module

public import proofs.«01_k».proof.Proof.Sched

@[expose] public section

noncomputable section

namespace Cert.Proof.Swap

open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A run of the program `p` on device `c`. -/
abbrev run (c : Dev nD) (p : PP F) (K : PUnit → sProp 𝕄) : sProp 𝕄 :=
  wp frame (wpE (defs₀ (F := F)) 𝒱₀ (c.tc : Thread nD τ) none) Set.univ p K

/-! ## What every device knows -/

/-- The semaphores of the exchange but the fetches': the barrier, the four slots', the sixteen arrivals'. -/
def csem (i : Fin 21) : SemLoc sig := if i.val = 0 then .reg barSem else .dma (⟨i.val + 2, by omega⟩ : Fin 23)
def kcell (x : Dev nD × Fin 21) : GSem nD τ sig := ((x.1.tc : Thread nD τ), csem x.2)

theorem kcell_bar (c : Dev nD) : kcell (c, 0) = barCell c := rfl
theorem kcell_send (c : Dev nD) (k : Nat) : kcell (c, ⟨1 + k % 4, by omega⟩) = sendCell c k := by
  unfold kcell csem; rw [if_neg (by dsimp only; omega)]
  exact congrArg (fun q => ((c.tc : Thread nD τ), SemLoc.dma q)) (Fin.ext (by show 1 + k % 4 + 2 = 3 + k % 4; omega))
theorem kcell_recv (c : Dev nD) (k : Nat) : kcell (c, ⟨5 + k % 16, by omega⟩) = recvCell c k := by
  unfold kcell csem; rw [if_neg (by dsimp only; omega)]
  exact congrArg (fun q => ((c.tc : Thread nD τ), SemLoc.dma q)) (Fin.ext (by show 5 + k % 16 + 2 = 7 + k % 16; omega))

/-- The cell `g` follows the schedule and has begun. -/
def kept (g : GSem nD τ sig) : sProp 𝕄 := iprop((∃ κ, cellInv ER (Rd m) κ g) ∗ reached ER g 0)
instance kept_persistent (g : GSem nD τ sig) : BI.Persistent (kept (F := F) m g) := by unfold kept; infer_instance

/-- Every cell of the exchange does, and the order of the waits is known. -/
def known : sProp 𝕄 := iprop((bigSep Finset.univ fun x => kept m (kcell x)) ∗ levAts L lv)
instance known_persistent : BI.Persistent (known (F := F) m) := by unfold known; infer_instance

theorem known_at (x : Dev nD × Fin 21) {g : GSem nD τ sig} (h : kcell x = g) : known (F := F) m ⊢ kept m g := by
  subst h
  have hx : (bigSep Finset.univ fun x => kept (F := F) m (kcell x)) ⊢ kept m (kcell x) := bigSep_elim (Finset.mem_univ x)
  unfold known
  iintro ⟨H, -⟩
  iapply hx; iexact H
theorem known_bar (c : Dev nD) : known (F := F) m ⊢ kept m (barCell c) := known_at m _ (kcell_bar c)
theorem known_send (c : Dev nD) (k : Nat) : known (F := F) m ⊢ kept m (sendCell c k) := known_at m _ (kcell_send c k)
theorem known_recv (c : Dev nD) (k : Nat) : known (F := F) m ⊢ kept m (recvCell c k) := known_at m _ (kcell_recv c k)
theorem known_lev : known (F := F) m ⊢ levAts L lv := by unfold known; iintro ⟨-, H⟩; iexact H

/-- Device `c` owes `O`. -/
def owing (c : Dev nD) (O : CellTallies nD τ sig Unit) : sProp 𝕄 := iprop(∃ W, owes (c.tc : Thread nD τ) O W)

/-! ## The fetches -/

theorem xPt_eq (c : Dev nD) (k : Nat) (f : Buf (Elt F) ((c.tc : Thread nD τ).loc main_arg0)) :
    (xPt c k f : sProp 𝕄) = ((xC k).view.loc (c.tc : Thread nD τ) ↦[(xC k).view.set]{fullShare} f) := by
  unfold xPt; rw [← set_xC]; rfl
theorem inPt_eq (c : Dev nD) (k : Nat) (f : Buf (Elt F) ((c.tc : Thread nD τ).loc cc0_scratch0)) :
    (inPt c k f : sProp 𝕄) = ((inS k).view.loc (c.tc : Thread nD τ) ↦[(inS k).view.set]{fullShare} f) := by
  unfold inPt; rw [← set_inS]; rfl
theorem slotPt_eq (c : Dev nD) (k : Nat) (f : Buf (Elt F) ((c.tc : Thread nD τ).loc cc0_scratch1)) :
    (slotPt c k f : sProp 𝕄) = ((slotS k).view.loc (c.tc : Thread nD τ) ↦[(slotS k).view.set]{fullShare} f) := by
  unfold slotPt; rw [← set_slotS]; rfl
theorem yPt_eq (c : Dev nD) (k : Nat) (f : Buf (Elt F) ((c.tc : Thread nD τ).loc main_v1)) :
    (yPt c k f : sProp 𝕄) = ((yC k).view.loc (c.tc : Thread nD τ) ↦[(yC k).view.set]{fullShare} f) := by
  unfold yPt; rw [← set_yC]; rfl

/-- The slot of chunk `k`'s fetch is free; -/
def inFree (c : Dev nD) (k : Nat) : sProp 𝕄 := iprop((∃ f, inPt c k f) ∗ semVal (inCell c k) 0)
/-- chunk `k` is on its way into it; -/
def flying (c : Dev nD) (k : Nat) : sProp 𝕄 :=
  iprop(∃ fd : Buf (Elt F) ((inS k).view.loc (c.tc : Thread nD τ)), Transfers.Flight EC (c.tc : Thread nD τ) (.dma (inSem k)) () NI
    iprop(((inS k).view.loc (c.tc : Thread nD τ) ↦[(inS k).view.set]{fullShare}
        ((inS k).view.write (Elt F) fd ((xC k).view.read (Elt F) (X m c)) Finset.univ))
      ∗ ((xC k).view.loc (c.tc : Thread nD τ) ↦[(xC k).view.set]{fullShare} X m c)))
/-- it holds chunk `k`. -/
def inHas (c : Dev nD) (k : Nat) : sProp 𝕄 :=
  iprop((∃ f, ⌜(inS k).view.read (Elt F) f = (xC k).view.read (Elt F) (X m c)⌝ ∗ inPt c k f) ∗ semVal (inCell c k) 0)

theorem inFree_add (c : Dev nD) (k : Nat) : (inFree c (k + 2) : sProp 𝕄) = inFree c k := by
  unfold inFree inPt inCell; rw [inSet_congr (Nat.add_mod_right k 2), inSem_add]

theorem step_fetch (c : Dev nD) (k : Nat) (K : PUnit → sProp 𝕄) :
    iprop(xPt c k (X m c) ∗ inFree c k ∗ (flying m c k -∗ K ⟨⟩)) ⊢ run c (fetch k) K := by
  unfold inFree run fetch
  iintro ⟨Hx, ⟨⟨%fd, Hi⟩, Hv⟩, Hk⟩
  ihave Hx := (Entails.of_eq (xPt_eq c k _)) $$ Hx
  ihave Hi := (Entails.of_eq (inPt_eq c k _)) $$ Hi
  iapply (Transfers.wp_dmaLocal EC 𝒱₀ (c.tc : Thread nD τ) none (src := xC k) (dst := inS k) (via := .same) (sm := .dma (inSem k)) (fd := fd) () NI rfl NI_pos
    (Finset.Subset.refl _)) $$ [Hx Hi Hv]
  · isplitl [Hx]; · iexact Hx
    isplitl [Hi] <;> iassumption
  iintro Hf
  rw [wp_ret]; imodintro
  iapply Hk
  unfold flying
  iexists fd
  iexact Hf

/-- The fetch's wait, whatever is owed, if the order of the waits allows it. -/
theorem step_fetched_of (c : Dev nD) (k : Nat) (O : CellTallies nD τ sig Unit) (K : PUnit → sProp 𝕄) :
    iprop(MayWait (c.tc : Thread nD τ) (.dma (inSem k)) () O ∗ flying m c k ∗ owing c O ∗ ((xPt c k (X m c) ∗ inHas m c k ∗ owing c O) -∗ K ⟨⟩))
      ⊢ run c (fetched k) K := by
  unfold flying owing run fetched
  iintro ⟨Hw, ⟨%fd, Hf⟩, ⟨%W, HO⟩, Hk⟩
  iapply (Transfers.wp_waitLocalO EC 𝒱₀ (c.tc : Thread nD τ) none (dstw := inS k) () (credit_in k)) $$ [Hf HO Hw]
  · isplitl [Hf]; · iexact Hf
    isplitl [HO] <;> iassumption
  iintro ⟨⟨Hi, Hx⟩, Hv, HO⟩
  rw [wp_ret]; imodintro
  iapply Hk
  isplitl [Hx]; · iapply (Entails.of_eq (xPt_eq c k _).symm); iexact Hx
  isplitl [Hi Hv]
  · unfold inHas
    isplitl [Hi]
    · iexists ((inS k).view.write (Elt F) fd ((xC k).view.read (Elt F) (X m c)) Finset.univ)
      isplitr; · ipureintro; exact View.read_write_univ _ _
      iapply (Entails.of_eq (inPt_eq c k _).symm); iexact Hi
    iexact Hv
  iexists _; iexact HO

theorem step_fetched (c : Dev nD) (k j : Nat) (K : PUnit → sProp 𝕄) :
    iprop(known m ∗ flying m c k ∗ owing c (debt c j) ∗ ((xPt c k (X m c) ∗ inHas m c k ∗ owing c (debt c j)) -∗ K ⟨⟩)) ⊢ run c (fetched k) K := by
  iintro ⟨#Hkn, H⟩
  iapply (step_fetched_of m c k (debt c j) K)
  isplitr
  · iapply (mayWait_debt c _ (by rw [lev_in]; decide) j)
    iapply (known_lev m) $$ Hkn
  iexact H

/-! ## The rounding -/

/-- The slot of chunk `k`'s copy is free, -/
def slotFree (c : Dev nD) (k : Nat) : sProp 𝕄 :=
  iprop((∃ f, slotPt (F := F) c k f) ∗ atPos ER (sendCell c k) (k / 4) ∅ 0 ∗ reached ER (sendCell c k) (k / 4))
/-- it holds the rows to send, -/
def slotHas (c : Dev nD) (k : Nat) : sProp 𝕄 :=
  iprop((∃ f, ⌜(slotS k).view.read (Elt F) f = rows m c k⌝ ∗ slotPt (F := F) c k f) ∗ atPos ER (sendCell c k) (k / 4) ∅ 0 ∗ reached ER (sendCell c k) (k / 4))
/-- they are on their way. -/
def slotBusy (c : Dev nD) (k : Nat) : sProp 𝕄 :=
  iprop(cred (tallyAt (sendCell c k) () N) ∗ atPos ER (sendCell c k) (k / 4) ∅ 0)

theorem slotPt_add (c : Dev nD) (k : Nat) (f) : (slotPt c (k + 4) f : sProp 𝕄) = slotPt c k f := by
  unfold slotPt; rw [slotSet_congr (Nat.add_mod_right k 4)]

/-- A slot read under its own shape is the slot read with a leading axis, reshaped. -/
theorem in_read (k : Nat) (f : (cc0_scratch0 : Ref sig .tc).ty.Contents (Elt F)) :
    (inS k).view.read (Elt F) f = shapeCast S256x2048 (inM.view.readAt (Elt F) (inR k).toLoadRect f) shapeCasts_S1x256x2048_S256x2048 := rfl
theorem slot_read (k : Nat) (f : (cc0_scratch1 : Ref sig .tc).ty.Contents (Elt F)) :
    (slotS k).view.read (Elt F) f = shapeCast S256x2048 ((slotM.access (slotR k)).read (Elt F) f) shapeCasts_S1x256x2048_S256x2048 := rfl
theorem pay_cast (v : Vec F S1x256x2048 .f32) : shapeCast S256x2048 (pay v) shapeCasts_S1x256x2048_S256x2048
    = (truncf .bf16 (shapeCast S256x2048 v shapeCasts_S1x256x2048_S256x2048 : FVec F S256x2048 .f32) bitsLt_bf16_f32 : FVec F S256x2048 .bf16) := by
  funext j
  unfold pay shapeCast
  simp [Shape.reshapeEquiv]

/-- A slot holding what was fetched, rounded. -/
theorem slot_written (c : Dev nD) (k : Nat) (f : (cc0_scratch0 : Ref sig .tc).ty.Contents (Elt F)) (g : (cc0_scratch1 : Ref sig .tc).ty.Contents (Elt F))
    (h : (inS k).view.read (Elt F) f = (xC k).view.read (Elt F) (X m c)) :
    (slotS k).view.read (Elt F) ((slotM.access (slotR k)).write (Elt F) g (pay (inM.view.readAt (Elt F) (inR k).toLoadRect f)) Finset.univ) = rows m c k := by
  rw [slot_read, View.read_write_univ, pay_cast, ← in_read, h]; rfl

theorem inPt_whole (c : Dev nD) (k : Nat) (f : Buf (Elt F) ((c.tc : Thread nD τ).loc cc0_scratch0)) :
    (inPt c k f : sProp 𝕄) = (inM.view.loc (c.tc : Thread nD τ) ↦[inSet k]{fullShare} f) := rfl
theorem slotPt_whole (c : Dev nD) (k : Nat) (f : Buf (Elt F) ((c.tc : Thread nD τ).loc cc0_scratch1)) :
    (slotPt c k f : sProp 𝕄) = (slotM.view.loc (c.tc : Thread nD τ) ↦[slotSet k]{fullShare} f) := rfl
theorem slotPt_access (c : Dev nD) (k : Nat) (f : Buf (Elt F) ((c.tc : Thread nD τ).loc cc0_scratch1)) :
    (slotPt c k f : sProp 𝕄) = ((slotM.access (slotR k)).loc (c.tc : Thread nD τ) ↦[slotSet k]{fullShare} f) := rfl

theorem setOn_in (k : Nat) : inM.view.setOn (inR k).toLoadRect.set ⊆ inSet k := Finset.subset_of_eq Finset.map_refl
theorem setOn_slot (k : Nat) : slotM.view.setOn (slotR k).toLoadRect.set ⊆ slotSet k := Finset.subset_of_eq Finset.map_refl
theorem access_slot (k : Nat) : (slotM.access (slotR k)).setOn Finset.univ ⊆ slotSet k :=
  Finset.subset_of_eq ((View.set_slice _ _).trans Finset.map_refl)

/-- The slot of chunk `k` at some contents, and at the rows to hand on. -/
def slotAny (c : Dev nD) (k : Nat) : sProp 𝕄 := iprop(∃ f, slotPt (F := F) c k f)
def slotRows (c : Dev nD) (k : Nat) : sProp 𝕄 := iprop(∃ f, ⌜(slotS k).view.read (Elt F) f = rows m c k⌝ ∗ slotPt (F := F) c k f)

/-- The rounding, of the buffers alone. -/
theorem step_round_of (c : Dev nD) (k : Nat) (K : PUnit → sProp 𝕄) :
    iprop(inHas m c k ∗ slotAny c k ∗ ((inFree c k ∗ slotRows m c k) -∗ K ⟨⟩)) ⊢ run c (round k) K := by
  unfold inHas slotAny run round
  simp only [Prog.lift, Prog.bind_op, Prog.bind_ret, Prog.pure_eq_ret]
  iintro ⟨⟨⟨%f, %hf, Hi⟩, Hv⟩, ⟨%g, Hs⟩, Hk⟩
  ihave Hi := (Entails.of_eq (inPt_whole c k f)) $$ Hi
  iapply (wp_load 𝒱₀ (c.tc : Thread nD τ) none Set.univ (m := inM) (r := (inR k).toLoadRect) (S := inSet k) (f := f) (setOn_in k)) $$ Hi
  iintro Hi
  ihave Hs := (Entails.of_eq (slotPt_whole c k g)) $$ Hs
  iapply (wp_load 𝒱₀ (c.tc : Thread nD τ) none Set.univ (m := slotM) (r := (slotR k).toLoadRect) (S := slotSet k) (f := g) (setOn_slot k)) $$ Hs
  iintro Hs
  ihave Hs := (Entails.of_eq ((slotPt_whole c k g).symm.trans (slotPt_access c k g))) $$ Hs
  iapply (wp_store 𝒱₀ (c.tc : Thread nD τ) none Set.univ (m := slotM) (r := slotR k) (Mk := Finset.univ) (S := slotSet k) (f := g) (access_slot k)) $$ Hs
  iintro Hs
  rw [wp_ret]; imodintro
  iapply Hk
  isplitl [Hi Hv]
  · unfold inFree
    isplitl [Hi]; · iexists f; iapply (Entails.of_eq (inPt_whole c k f).symm); iexact Hi
    iexact Hv
  unfold slotRows
  iexists (slotM.access (slotR k)).write (Elt F) g (pay (inM.view.readAt (Elt F) (inR k).toLoadRect f)) Finset.univ
  isplitr; · ipureintro; exact slot_written m c k f g hf
  iapply (Entails.of_eq (slotPt_access c k _).symm); iexact Hs

theorem step_round (c : Dev nD) (k : Nat) (K : PUnit → sProp 𝕄) :
    iprop(inHas m c k ∗ slotFree c k ∗ ((inFree c k ∗ slotHas m c k) -∗ K ⟨⟩)) ⊢ run c (round k) K := by
  unfold slotFree slotHas
  iintro ⟨Hi, ⟨Hs, Hat, Hr⟩, Hk⟩
  iapply (step_round_of m c k K)
  isplitl [Hi]; · iexact Hi
  isplitl [Hs]; · unfold slotAny; iexact Hs
  iintro ⟨Hi, Hs⟩
  iapply Hk
  isplitl [Hi]; · iexact Hi
  isplitl [Hs]; · unfold slotRows; iexact Hs
  isplitl [Hat] <;> iassumption

/-! ## The copies between the partners -/

/-- What device `c` pays chunk `k`'s copy with. -/
def toks (c : Dev nD) (k : Nat) : sProp 𝕄 :=
  iprop(dutyTok ER (sendCell c k) (k / 4) () ∗ dutyTok ER (recvCell (peer c) k) 0 ())

/-- The partner's rows after the copy. -/
theorem landed (c : Dev nD) (k : Nat) (fs : Buf (Elt F) ((c.tc : Thread nD τ).loc cc0_scratch1))
    (fd : Buf (Elt F) (((peer c).tc : Thread nD τ).loc main_v1)) (h : (slotS k).view.read (Elt F) fs = rows m c k) :
    ((yC k).view.loc ((peer c).tc : Thread nD τ) ↦[(yC k).view.set]{fullShare}
        ((yC k).view.write (Elt F) fd ((slotS k).view.read (Elt F) fs) Finset.univ) : sProp 𝕄) = recvPay m (peer c) k := by
  unfold recvPay
  rw [yPt_eq, h]
  refine pointsTo_congr fun i hi => ?_
  obtain ⟨x, rfl⟩ : ∃ x, (yC k).view.emb x = i := by
    obtain ⟨x, -, hx⟩ := Finset.mem_map.mp hi; exact ⟨x, hx⟩
  have e := congrFun (View.read_write_univ (v := (yC k).view) (Val := Elt F) fd (rows m c k)) x
  have e' : (yC k).view.read (Elt F) (res m (peer c)) x = rows m c k x := by rw [res_rows, peer_peer]
  exact e.trans e'.symm

theorem step_send (c d : Dev nD) (hd : d = peer c) (k : Nat) (hk : k < 16) (fd : Buf (Elt F) (((peer c).tc : Thread nD τ).loc main_v1)) (K : PUnit → sProp 𝕄) :
    iprop(known m ∗ slotHas m c k ∗ toks c k ∗ yPt (peer c) k fd ∗ owing c (debt c k)
        ∗ ((slotBusy c k ∗ owing c (debt c (k + 1))) -∗ K ⟨⟩)) ⊢ run c (send d k) K := by
  subst hd
  unfold slotHas toks owing run send
  iintro ⟨#Hkn, ⟨⟨%fs, %hfs, Hs⟩, Hat, #Hr⟩, ⟨HtS, HtR⟩, Hy, ⟨%W, HO⟩, Hk⟩
  ihave #HS := (known_send m c k) $$ Hkn
  ihave #HR := (known_recv m (peer c) k) $$ Hkn
  unfold kept
  icases HS with ⟨⟨%κ₁, #HIs⟩, -⟩
  icases HR with ⟨⟨%κ₂, #HIr⟩, #Hr0⟩
  ihave Hs := (Entails.of_eq (slotPt_eq c k fs)) $$ Hs
  ihave Hy := (Entails.of_eq (yPt_eq (peer c) k fd)) $$ Hy
  iapply (Rounds.wp_send_pointsTo 𝒱₀ ER (Rd m) (c.tc : Thread nD τ) none (c' := ((peer c).tc : Thread nD τ)) (src := slotS k) (dst := yC k)
    (sS := .dma (sendSem k)) (sem := .dma (recvSem k)) (κ₁ := κ₁) (κ₂ := κ₂)
    (r₁ := k / 4) (r₂ := 0) (d₁ := ()) (d₂ := ()) (q := fullShare) (fs := fs) (fd := fd) (mem_send m c k hk) (mem_recv m (peer c) k)
    () () N rfl rfl rfl (debt c (k + 1)) (debt_step c k hk) (W := W)
    (by
      show _ ⊢ payOn m c (.dma (sendSem k))
      rw [payOn_send]; refine (Entails.of_eq (slotPt_eq c k fs).symm).trans ?_; unfold sendPay
      iintro H; iexists fs; iexact H)
    (by
      show _ ⊢ payOn m (peer c) (.dma (recvSem k))
      rw [payOn_recv, landed m c k fs fd hfs])) $$ [Hs Hy HO HtS HtR]
  · isplitr; · iexact HIs
    isplitr; · iexact HIr
    isplitl [Hs]; · iexact Hs
    isplitl [Hy]; · iexact Hy
    isplitl [HO]; · iexact HO
    isplitl [HtS]; · iexact HtS
    isplitr; · iexact Hr
    isplitl [HtR]; · iexact HtR
    iexact Hr0
  iintro ⟨Hc, HO⟩
  rw [wp_ret]; imodintro
  iapply Hk
  isplitl [Hc Hat]
  · unfold slotBusy
    isplitl [Hc] <;> iassumption
  iexists _; iexact HO

/-- A slot's copies are all done: its semaphore is the device's again. -/
theorem close_send (c : Dev nD) (k : Nat) (hk : 16 ≤ k) :
    iprop(known m ∗ slotFree c k) ⊢ iprop(|={Set.univ}[frame]=> ((∃ f, slotPt (F := F) c k f) ∗ semVal (sendCell c k) 0)) := by
  unfold slotFree
  iintro ⟨#Hkn, Hs, Hat, -⟩
  ihave #HS := (known_send m c k) $$ Hkn
  unfold kept
  icases HS with ⟨⟨%κ, #HI⟩, -⟩
  imod (Rounds.cell_close ER (Rd m) (Set.mem_univ κ) (fun h => h) (R := k / 4)
    (fun r hr => duties_past m c (by rw [roundsOf_send]; omega))) $$ [Hat] with Hv
  · isplitr; · iexact HI
    iexact Hat
  imodintro
  isplitl [Hs] <;> iassumption

theorem step_sent (c : Dev nD) (k j : Nat) (hk : k < 16) (K : PUnit → sProp 𝕄) :
    iprop(known m ∗ slotBusy c k ∗ owing c (debt c j) ∗ ((slotFree c (k + 4) ∗ owing c (debt c j)) -∗ K ⟨⟩)) ⊢ run c (sent k) K := by
  unfold slotBusy owing run sent
  iintro ⟨#Hkn, ⟨Hc, Hat⟩, ⟨%W, HO⟩, Hk⟩
  ihave #HS := (known_send m c k) $$ Hkn
  unfold kept
  icases HS with ⟨⟨%κ, #HI⟩, -⟩
  have hr : k / 4 < roundsOf (.dma (sendSem k)) := by rw [roundsOf_send]; omega
  iapply (Rounds.wp_wait_rest_token 𝒱₀ ER (Rd m) (c.tc : Thread nD τ) none (κ := κ)
      (wpE_waitDma2_eq 𝒱₀ (c.tc : Thread nD τ) none Set.univ) (Set.mem_univ _) () (O := debt c j) (W := W) (R := k / 4) (m := 0) (T := ∅)
      (by rw [Nat.zero_add, expect_of m c hr]; rfl)) $$ [Hc HO Hat]
  · isplitr; · iexact HI
    isplitl [Hc]; · iexact Hc
    isplitl [HO]; · iexact HO
    isplitr
    · iapply (mayWait_debt c _ (by rw [lev_send]; decide) j)
      iapply (known_lev m) $$ Hkn
    iexact Hat
  iintro ⟨HO, Hat, Hr, Hpay⟩
  ihave Hp := (Entails.of_eq ((rest_of m c hr).trans (payOn_send m c k))) $$ Hpay
  rw [wp_ret]; imodintro
  iapply Hk
  isplitl [Hat Hr Hp]
  · unfold slotFree sendCell
    rw [sendSem_add, show (k + 4) / 4 = k / 4 + 1 by omega]
    isplitl [Hp]
    · unfold sendPay
      icases Hp with ⟨%f, Hp⟩
      iexists f; iapply (Entails.of_eq (slotPt_add c k f).symm); iexact Hp
    isplitl [Hat] <;> iassumption
  iexists _; iexact HO

theorem step_arrived (c : Dev nD) (k : Nat) (K : PUnit → sProp 𝕄) :
    iprop(known m ∗ (cred (tallyAt (recvCell c k) () N) ∗ atPos ER (recvCell c k) 0 ∅ 0) ∗ owing c 0
        ∗ ((yPt c k (res m c) ∗ semVal (recvCell c k) 0 ∗ owing c 0) -∗ K ⟨⟩)) ⊢ run c (arrived k) K := by
  unfold owing run arrived
  iintro ⟨#Hkn, ⟨Hc, Hat⟩, ⟨%W, HO⟩, Hk⟩
  ihave #HS := (known_recv m c k) $$ Hkn
  unfold kept
  icases HS with ⟨⟨%κ, #HI⟩, -⟩
  have hr : 0 < roundsOf (.dma (recvSem k)) := by rw [roundsOf_recv]; decide
  iapply (Rounds.wp_wait_rest_token 𝒱₀ ER (Rd m) (c.tc : Thread nD τ) none (κ := κ)
      (wpE_waitDma2_eq 𝒱₀ (c.tc : Thread nD τ) none Set.univ) (Set.mem_univ _) () (O := 0) (W := W) (R := 0) (m := 0) (T := ∅)
      (by rw [Nat.zero_add, expect_of m c hr]; rfl)) $$ [Hc HO Hat]
  · isplitr; · iexact HI
    isplitl [Hc]; · iexact Hc
    isplitl [HO]; · iexact HO
    isplitr
    · iapply (mayWait_zero c _)
      iapply (known_lev m) $$ Hkn
    iexact Hat
  iintro ⟨HO, Hat, -, Hpay⟩
  ihave Hp := (Entails.of_eq ((rest_of m c hr).trans (payOn_recv m c k))) $$ Hpay
  imod (Rounds.cell_close ER (Rd m) (Set.mem_univ κ) (fun h => h) (R := 0 + 1)
    (fun r hr => duties_past m c (by rw [roundsOf_recv]; omega))) $$ [Hat] with Hv
  · isplitr; · iexact HI
    iexact Hat
  rw [wp_ret]; imodintro
  iapply Hk
  unfold recvPay
  isplitl [Hp]; · iexact Hp
  isplitl [Hv]; · iexact Hv
  iexists _; iexact HO

/-! ## The barrier -/

theorem payload_bar (c : Dev nD) : (Rd (F := F) m).payload (barCell c) 0 () = barPay c := rfl

theorem step_signal (c d : Dev nD) (hd : d = peer c) (K : PUnit → sProp 𝕄) :
    iprop(known m ∗ owing c (O₀ c) ∗ dutyTok ER (barCell (peer c)) 0 () ∗ (∃ f, (c.tc : Thread nD τ).loc main_v1 ↦{fullShare} f)
        ∗ (owing c (debt c 0) -∗ K ⟨⟩)) ⊢ run c (semSignalWord d barSem 1#32) K := by
  subst hd
  unfold owing run
  simp only [semSignalWord, Prog.lift, Prog.bind_op, Prog.bind_ret, Prog.pure_eq_ret, wp_deviceId]
  iintro ⟨#Hkn, ⟨%W, HO⟩, Ht, Hy, Hk⟩
  ihave #HS := (known_bar m (peer c)) $$ Hkn
  unfold kept
  icases HS with ⟨⟨%κ, #HI⟩, #Hr⟩
  iapply (Rounds.wp_signal 𝒱₀ ER (Rd m) (c.tc : Thread nD τ) none (dst := ((peer c).tc : Thread nD τ)) (κ := κ) (r := 0)
      (d := ()) (mem_bar m (peer c)) (show amountOn (.reg barSem) = _ by decide) () (debt c 0) rfl (W := W)) $$ [HO Ht Hy]
  · isplitr; · iexact HI
    isplitl [HO]; · iexact HO
    isplitl [Ht]; · iexact Ht
    isplitl [Hy]
    · iapply (Entails.of_eq (payload_bar m (peer c)).symm)
      unfold barPay; rw [peer_peer]; iexact Hy
    iexact Hr
  iintro HO
  rw [wp_ret]; imodintro
  iapply Hk
  iexists _; iexact HO

theorem step_barrier (c : Dev nD) (K : PUnit → sProp 𝕄) :
    iprop(known m ∗ cred (tallyAt (barCell c) () 1) ∗ atPos ER (barCell c) 0 ∅ 0 ∗ owing c (debt c 0)
        ∗ (((∃ f, ((peer c).tc : Thread nD τ).loc main_v1 ↦{fullShare} f) ∗ semVal (barCell c) 0 ∗ owing c (debt c 0)) -∗ K ⟨⟩)) ⊢ run c (semWaitWord barSem 1#32) K := by
  unfold owing run
  simp only [semWaitWord, Prog.lift, Prog.bind_op, Prog.bind_ret, Prog.pure_eq_ret, wp_deviceId]
  iintro ⟨#Hkn, Hc, Hat, ⟨%W, HO⟩, Hk⟩
  ihave #HS := (known_bar m c) $$ Hkn
  unfold kept
  icases HS with ⟨⟨%κ, #HI⟩, -⟩
  have hr : 0 < roundsOf (.reg barSem) := by rw [roundsOf_bar]; decide
  iapply (Rounds.wp_wait_rest_token 𝒱₀ ER (Rd m) (c.tc : Thread nD τ) none (κ := κ)
      (wpE_semWait_eq 𝒱₀ (c.tc : Thread nD τ) none Set.univ) (Set.mem_univ _) () (O := debt c 0) (W := W) (R := 0) (m := 0) (T := ∅)
      (by rw [Nat.zero_add, expect_of m c hr]; decide)) $$ [Hc HO Hat]
  · isplitr; · iexact HI
    isplitl [Hc]; · iexact Hc
    isplitl [HO]; · iexact HO
    isplitr
    · iapply (mayWait_debt c _ (by decide) 0)
      iapply (known_lev m) $$ Hkn
    iexact Hat
  iintro ⟨HO, Hat, -, Hpay⟩
  ihave Hp := (Entails.of_eq ((rest_of m c hr).trans (payOn_bar m c))) $$ Hpay
  imod (Rounds.cell_close ER (Rd m) (Set.mem_univ κ) (fun h => h) (R := 0 + 1)
    (fun r hr => duties_past m c (by rw [roundsOf_bar]; omega))) $$ [Hat] with Hv
  · isplitr; · iexact HI
    iexact Hat
  rw [wp_ret]; imodintro
  iapply Hk
  unfold barPay
  isplitl [Hp]; · iexact Hp
  isplitl [Hv]; · iexact Hv
  iexists _; iexact HO

end Cert.Proof.Swap

end
-- ==== Proof.Exchange.lean ====
/- The exchange as a whole: the chunks' steps composed along the loops. -/
module

public import proofs.«01_k».proof.Proof.Steps
public import Idealize.SL.BI.BigOpNat

@[expose] public section

noncomputable section

namespace Cert.Proof.Swap

open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The buffers and their chunks -/

theorem mem_cSet (k : Nat) (i : S1x4096x2048.Idx) : i ∈ cSet k ↔ 256 * (k % 16) ≤ (i 1).val ∧ (i 1).val < 256 * (k % 16) + 256 := by
  unfold cSet chunkR
  rw [Rect.mem_set_unit]
  constructor
  · intro h; exact h 1
  · intro h a
    fin_cases a
    · exact ⟨Nat.zero_le _, by have := (i 0).isLt; show (i 0).val < 0 + 1; exact (Nat.zero_add 1).symm ▸ this⟩
    · exact h
    · exact ⟨Nat.zero_le _, by have := (i 2).isLt; show (i 2).val < 0 + 2048; exact (Nat.zero_add 2048).symm ▸ this⟩

theorem cSet_disjoint : ∀ j ∈ Finset.Ico 0 16, ∀ k ∈ Finset.Ico 0 16, j ≠ k → Disjoint (cSet j) (cSet k) := by
  intro j hj k hk hne
  rw [Finset.mem_Ico] at hj hk
  rw [Finset.disjoint_left]
  intro i h h'
  rw [mem_cSet] at h h'
  omega
theorem cSet_cover : (Finset.Ico 0 16).biUnion cSet = Finset.univ := by
  refine Finset.eq_univ_iff_forall.mpr fun i => Finset.mem_biUnion.mpr ?_
  have hi : (i 1).val < 4096 := (i 1).isLt
  exact ⟨(i 1).val / 256, Finset.mem_Ico.mpr ⟨Nat.zero_le _, by omega⟩, (mem_cSet _ i).mpr (by omega)⟩

/-- A result buffer held whole is held chunk by chunk. -/
theorem y_chunks (c : Dev nD) (f : Buf (Elt F) ((c.tc : Thread nD τ).loc main_v1)) :
    ((c.tc : Thread nD τ).loc main_v1 ↦{fullShare} f : sProp 𝕄) = bigSep (Finset.Ico 0 16) fun k => yPt c k f := by
  have h := pointsTo_biUnion (Ix := Unit) (Name := ℕ) (U := UU) (Lvl := ℕ) (Val := Elt F) (ℓ := (c.tc : Thread nD τ).loc main_v1) (q := fullShare) (f := f)
    (Finset.Ico 0 16) cSet cSet_disjoint
  rw [cSet_cover] at h
  exact h

/-- The argument but its chunk `k`; the argument whole. -/
def xRest (c : Dev nD) (k : Nat) : sProp 𝕄 := (c.tc : Thread nD τ).loc main_arg0 ↦[Finset.univ \ cSet k]{fullShare} X m c
def xWhole (c : Dev nD) : sProp 𝕄 := (c.tc : Thread nD τ).loc main_arg0 ↦{fullShare} X m c
theorem x_split (c : Dev nD) (k : Nat) : xWhole (F := F) m c ⊣⊢ iprop(xPt c k (X m c) ∗ xRest m c k) :=
  pointsTo_split_subset (Finset.subset_univ _)

/-! ## The loops' rule -/

theorem run_bind (c : Dev nD) (p q : PP F) (K : PUnit → sProp 𝕄) :
    run c (p >>= fun _ => q) K = run c p (fun _ => run c q K) := by
  unfold run; rw [wp_bind]

/-- A loop keeps what each turn keeps; -/
theorem run_loop (c : Dev nD) (f : Nat → PP F) (I : Nat → sProp 𝕄) :
    ∀ (n k : Nat) (h : ∀ j, k ≤ j → j < k + n → ∀ K : PUnit → sProp 𝕄, iprop(I j ∗ (I (j + 1) -∗ K ⟨⟩)) ⊢ run c (f j) K)
      (K : PUnit → sProp 𝕄), iprop(I k ∗ (I (k + n) -∗ K ⟨⟩)) ⊢ run c (upto f n k) K
  | 0, k, _, K => by
    unfold upto run
    iintro ⟨HI, Hk⟩
    rw [Prog.pure_eq_ret, wp_ret]; imodintro
    iapply Hk; iexact HI
  | n + 1, k, h, K => by
    unfold upto
    rw [run_bind]
    iintro ⟨HI, Hk⟩
    iapply (h k (Nat.le_refl k) (by omega) _)
    isplitl [HI]; · iexact HI
    iintro HI
    iapply (run_loop c f I n (k + 1) (fun j hj hj' => h j (by omega) (by omega)) K)
    isplitl [HI]; · iexact HI
    rw [show k + 1 + n = k + (n + 1) by omega]
    iexact Hk

/-- and each turn may use what is known. -/
theorem run_upto (c : Dev nD) (f : Nat → PP F) (I : Nat → sProp 𝕄) (n k : Nat)
    (h : ∀ j, k ≤ j → j < k + n → ∀ K : PUnit → sProp 𝕄, iprop(known m ∗ I j ∗ (I (j + 1) -∗ K ⟨⟩)) ⊢ run c (f j) K)
    (K : PUnit → sProp 𝕄) : iprop(known m ∗ I k ∗ (I (k + n) -∗ K ⟨⟩)) ⊢ run c (upto f n k) K := by
  iintro ⟨#Hkn, HI, Hk⟩
  iapply (run_loop c f (fun j => iprop(known m ∗ I j)) n k (fun j hj hj' K => by
    iintro ⟨⟨#Hkn, HI⟩, Hk⟩
    iapply (h j hj hj' K)
    isplitr; · iexact Hkn
    isplitl [HI]; · iexact HI
    iintro HI
    iapply Hk
    isplitr; · iexact Hkn
    iexact HI) K)
  isplitl [HI]
  · isplitr; · iexact Hkn
    iexact HI
  iintro ⟨-, HI⟩
  iapply Hk; iexact HI

/-! ## One chunk -/

/-- Before chunk `k`: its rows are on their way; after the last, the argument is whole again. -/
def ahead (c : Dev nD) (k : Nat) : sProp 𝕄 :=
  if k < 16 then iprop(flying m c k ∗ xRest m c k) else iprop(xWhole m c ∗ inFree c k)
/-- Chunk `k`'s slot: free for the first four, still being sent from afterwards. -/
def slotAt (c : Dev nD) (k : Nat) : sProp 𝕄 := if k < 4 then slotFree c k else slotBusy c (k - 4)

theorem step_front (c : Dev nD) (k j : Nat) (hk : k < 16) (K : PUnit → sProp 𝕄) :
    iprop(known m ∗ ahead m c k ∗ inFree c (k + 1) ∗ slotAt c k ∗ owing c (debt c j)
        ∗ ((ahead m c (k + 1) ∗ inHas m c k ∗ slotFree c k ∗ owing c (debt c j)) -∗ K ⟨⟩)) ⊢ run c (front k) K := by
  unfold front
  rw [run_bind, run_bind]
  unfold ahead
  rw [if_pos hk]
  iintro ⟨#Hkn, ⟨Hf, Hx⟩, Hi, Hs, HO, Hk⟩
  iapply (step_fetched m c k j _)
  isplitr; · iexact Hkn
  isplitl [Hf]; · iexact Hf
  isplitl [HO]; · iexact HO
  iintro ⟨Hxk, Hin, HO⟩
  ihave Hx := (x_split m c k).2 $$ [Hxk Hx]
  · isplitl [Hxk] <;> iassumption
  have hsent : iprop(known m ∗ slotAt c k ∗ owing c (debt c j) ∗ ((slotFree c k ∗ owing c (debt c j)) -∗ K ⟨⟩))
      ⊢ run c (vacate k) K := by
    unfold slotAt vacate
    by_cases h4 : 4 ≤ k
    · rw [if_neg (by omega), if_pos h4]
      have h := step_sent m c (k - 4) j (by omega) K
      rw [show k - 4 + 4 = k by omega] at h
      exact h
    · rw [if_pos (by omega), if_neg h4]
      unfold run
      iintro ⟨-, Hs, HO, Hk⟩
      rw [Prog.pure_eq_ret, wp_ret]; imodintro
      iapply Hk
      isplitl [Hs] <;> iassumption
  unfold ask
  by_cases h : k + 1 < 16
  · rw [if_pos h, if_pos h]
    icases (x_split m c (k + 1)).1 $$ Hx with ⟨Hxk, Hx⟩
    iapply (step_fetch m c (k + 1) _)
    isplitl [Hxk]; · iexact Hxk
    isplitl [Hi]; · iexact Hi
    iintro Hf
    iapply hsent
    isplitr; · iexact Hkn
    isplitl [Hs]; · iexact Hs
    isplitl [HO]; · iexact HO
    iintro ⟨Hs, HO⟩
    iapply Hk
    isplitl [Hf Hx]; · isplitl [Hf] <;> iassumption
    isplitl [Hin]; · iexact Hin
    isplitl [Hs] <;> iassumption
  · rw [if_neg h, if_neg h]
    unfold run
    rw [Prog.pure_eq_ret, wp_ret]; imodintro
    iapply hsent
    isplitr; · iexact Hkn
    isplitl [Hs]; · iexact Hs
    isplitl [HO]; · iexact HO
    iintro ⟨Hs, HO⟩
    iapply Hk
    isplitl [Hi Hx]; · isplitl [Hx] <;> iassumption
    isplitl [Hin]; · iexact Hin
    isplitl [Hs] <;> iassumption

/-- What the loop holds before chunk `k`, the partner's result buffer having come at contents `f`. -/
def inv (c : Dev nD) (f : Buf (Elt F) (((peer c).tc : Thread nD τ).loc main_v1)) (k : Nat) : sProp 𝕄 :=
  iprop(ahead m c k ∗ inFree c (k + 1) ∗ (slotAt c k ∗ slotAt c (k + 1) ∗ slotAt c (k + 2) ∗ slotAt c (k + 3))
    ∗ (bigSep (Finset.Ico k 16) fun j => toks c j) ∗ (bigSep (Finset.Ico k 16) fun j => yPt (peer c) j f) ∗ owing c (debt c k))

theorem slotAt_busy (c : Dev nD) (k : Nat) : (slotAt c (k + 4) : sProp 𝕄) = slotBusy c k := by
  unfold slotAt; rw [if_neg (by omega), Nat.add_sub_cancel]

/-- The send of chunk `k` at the end of its turn. -/
theorem step_give (c d : Dev nD) (hd : d = peer c) (f : Buf (Elt F) (((peer c).tc : Thread nD τ).loc main_v1)) (k : Nat) (hk : k < 16) (K : PUnit → sProp 𝕄) :
    iprop(known m ∗ ahead m c (k + 1) ∗ inFree c k ∗ slotHas m c k ∗ (slotAt c (k + 1) ∗ slotAt c (k + 2) ∗ slotAt c (k + 3))
      ∗ (bigSep (Finset.Ico k 16) fun j => toks c j) ∗ (bigSep (Finset.Ico k 16) fun j => yPt (peer c) j f) ∗ owing c (debt c k)
      ∗ (inv m c f (k + 1) -∗ K ⟨⟩)) ⊢ run c (send d k) K := by
  rw [bigSep_Ico_succ_bot hk, bigSep_Ico_succ_bot hk]
  iintro ⟨#Hkn, Ha, Hi, Hs, ⟨Hs1, Hs2, Hs3⟩, ⟨Ht, Hts⟩, ⟨Hy, Hys⟩, HO, Hk⟩
  iapply (step_send m c d hd k hk f K)
  isplitr; · iexact Hkn
  isplitl [Hs]; · iexact Hs
  isplitl [Ht]; · iexact Ht
  isplitl [Hy]; · iexact Hy
  isplitl [HO]; · iexact HO
  iintro ⟨Hs, HO⟩
  iapply Hk
  unfold inv
  isplitl [Ha]; · iexact Ha
  isplitl [Hi]; · iapply (Entails.of_eq (inFree_add c k).symm); iexact Hi
  isplitl [Hs Hs1 Hs2 Hs3]
  · isplitl [Hs1]; · iexact Hs1
    isplitl [Hs2]; · iexact Hs2
    isplitl [Hs3]; · iexact Hs3
    iapply (Entails.of_eq (slotAt_busy c k).symm); iexact Hs
  isplitl [Hts]; · iexact Hts
  isplitl [Hys] <;> iassumption

theorem step_chunk (c d : Dev nD) (hd : d = peer c) (f : Buf (Elt F) (((peer c).tc : Thread nD τ).loc main_v1)) (k : Nat) (hk : k < 16) (K : PUnit → sProp 𝕄) :
    iprop(known m ∗ inv m c f k ∗ (inv m c f (k + 1) -∗ K ⟨⟩)) ⊢ run c (chunk d k) K := by
  unfold chunk
  rw [run_bind, run_bind]
  unfold inv
  iintro ⟨#Hkn, ⟨Ha, Hi, ⟨Hs, Hs1, Hs2, Hs3⟩, Hts, Hys, HO⟩, Hk⟩
  iapply (step_front m c k k hk _)
  isplitr; · iexact Hkn
  isplitl [Ha]; · iexact Ha
  isplitl [Hi]; · iexact Hi
  isplitl [Hs]; · iexact Hs
  isplitl [HO]; · iexact HO
  iintro ⟨Ha, Hin, Hs, HO⟩
  iapply (step_round m c k _)
  isplitl [Hin]; · iexact Hin
  isplitl [Hs]; · iexact Hs
  iintro ⟨Hi, Hs⟩
  iapply (step_give m c d hd f k hk K)
  isplitr; · iexact Hkn
  isplitl [Ha]; · iexact Ha
  isplitl [Hi]; · iexact Hi
  isplitl [Hs]; · iexact Hs
  isplitl [Hs1 Hs2 Hs3]
  · isplitl [Hs1]; · iexact Hs1
    isplitl [Hs2] <;> iassumption
  isplitl [Hts]; · iexact Hts
  isplitl [Hys]; · iexact Hys
  isplitl [HO]; · iexact HO
  iexact Hk

/-! ## After the loop -/

/-- The last four copies, from chunk `k` on still to be seen off. -/
def leaving (c : Dev nD) (k : Nat) : sProp 𝕄 :=
  iprop((bigSep (Finset.Ico k 16) fun j => slotBusy c j) ∗ (bigSep (Finset.Ico 16 (k + 4)) fun j => slotFree c j) ∗ owing c (debt c 16))
theorem step_leaving (c : Dev nD) (k : Nat) (hlo : 12 ≤ k) (hk : k < 16) (K : PUnit → sProp 𝕄) :
    iprop(known m ∗ leaving c k ∗ (leaving c (k + 1) -∗ K ⟨⟩)) ⊢ run c (sent k) K := by
  unfold leaving
  rw [bigSep_Ico_succ_bot hk, show k + 1 + 4 = (k + 4) + 1 by omega, bigSep_Ico_succ_top (show 16 ≤ k + 4 by omega)]
  iintro ⟨#Hkn, ⟨⟨Hb, Hbs⟩, Hfs, HO⟩, Hk⟩
  iapply (step_sent m c k 16 hk K)
  isplitr; · iexact Hkn
  isplitl [Hb]; · iexact Hb
  isplitl [HO]; · iexact HO
  iintro ⟨Hf, HO⟩
  iapply Hk
  isplitl [Hbs]; · iexact Hbs
  isplitl [Hf Hfs]; · isplitl [Hf] <;> iassumption
  iexact HO

/-- The arrivals from chunk `k` on still to come. -/
def due (c : Dev nD) (k : Nat) : sProp 𝕄 := iprop(cred (tallyAt (recvCell c k) () N) ∗ atPos ER (recvCell c k) 0 ∅ 0)
def coming (c : Dev nD) (k : Nat) : sProp 𝕄 :=
  iprop((bigSep (Finset.Ico k 16) fun j => due c j) ∗ (bigSep (Finset.Ico 0 k) fun j => yPt c j (res m c))
    ∗ (bigSep (Finset.Ico 0 k) fun j => semVal (recvCell c j) 0) ∗ owing c 0)
theorem step_coming (c : Dev nD) (k : Nat) (hk : k < 16) (K : PUnit → sProp 𝕄) :
    iprop(known m ∗ coming m c k ∗ (coming m c (k + 1) -∗ K ⟨⟩)) ⊢ run c (arrived k) K := by
  unfold coming
  rw [bigSep_Ico_succ_bot hk, bigSep_Ico_succ_top (Nat.zero_le k), bigSep_Ico_succ_top (Nat.zero_le k)]
  unfold due
  iintro ⟨#Hkn, ⟨⟨Hd, Hds⟩, Hys, Hvs, HO⟩, Hk⟩
  iapply (step_arrived m c k K)
  isplitr; · iexact Hkn
  isplitl [Hd]; · iexact Hd
  isplitl [HO]; · iexact HO
  iintro ⟨Hy, Hv, HO⟩
  iapply Hk
  isplitl [Hds]; · iexact Hds
  isplitl [Hys Hy]; · isplitl [Hy] <;> iassumption
  isplitl [Hvs Hv]; · isplitl [Hv] <;> iassumption
  iexact HO

/-! ## The exchange -/

/-- What a device brings to the exchange. -/
def before (c : Dev nD) : sProp 𝕄 :=
  iprop(xWhole m c ∗ (∃ f, (c.tc : Thread nD τ).loc main_v1 ↦{fullShare} f) ∗ inFree c 0 ∗ inFree c 1 ∗ (bigSep (Finset.Ico 0 4) fun j => slotFree c j)
    ∗ (bigSep (Finset.Ico 0 16) fun j => toks c j) ∗ (bigSep (Finset.Ico 0 16) fun j => due c j)
    ∗ (dutyTok ER (barCell (peer c)) 0 () ∗ cred (tallyAt (barCell c) () 1) ∗ atPos ER (barCell c) 0 ∅ 0) ∗ owing c (O₀ c))
/-- What it leaves with: the result in place, its semaphores its own again. -/
def after (c : Dev nD) : sProp 𝕄 :=
  iprop(xWhole m c ∗ ((c.tc : Thread nD τ).loc main_v1 ↦{fullShare} res m c) ∗ inFree c 0 ∗ inFree c 1
    ∗ (bigSep (Finset.Ico 16 20) fun j => iprop((∃ f, slotPt (F := F) c j f) ∗ semVal (sendCell c j) 0))
    ∗ (bigSep (Finset.Ico 0 16) fun j => semVal (recvCell c j) 0) ∗ semVal (barCell c) 0 ∗ owing c 0)

theorem slotsFree (c : Dev nD) : (bigSep (Finset.Ico 0 4) fun j => slotFree c j : sProp 𝕄)
    = iprop(slotAt c 0 ∗ slotAt c (0 + 1) ∗ slotAt c (0 + 2) ∗ slotAt c (0 + 3)) := by
  rw [bigSep_Ico_succ_bot (by decide), bigSep_Ico_succ_bot (by decide), bigSep_Ico_succ_bot (by decide), bigSep_Ico_one]
  unfold slotAt
  rw [if_pos (by decide), if_pos (by decide), if_pos (by decide), if_pos (by decide)]
theorem slotsBusy (c : Dev nD) : (iprop(slotAt c 16 ∗ slotAt c (16 + 1) ∗ slotAt c (16 + 2) ∗ slotAt c (16 + 3)) : sProp 𝕄)
    = bigSep (Finset.Ico 12 16) fun j => slotBusy c j := by
  rw [bigSep_Ico_succ_bot (show 12 < 16 by decide), bigSep_Ico_succ_bot (by decide), bigSep_Ico_succ_bot (by decide), bigSep_Ico_one]
  unfold slotAt
  rw [if_neg (by decide), if_neg (by decide), if_neg (by decide), if_neg (by decide)]

theorem slotsClose (c : Dev nD) : iprop(known m ∗ bigSep (Finset.Ico 16 20) fun j => slotFree c j)
    ⊢ iprop(|={Set.univ}[frame]=> bigSep (Finset.Ico 16 20) fun j => iprop((∃ f, slotPt (F := F) c j f) ∗ semVal (sendCell c j) 0)) := by
  simp only [bigSep_Ico_succ_bot (show 16 < 20 by decide), bigSep_Ico_succ_bot (show 16 + 1 < 20 by decide),
    bigSep_Ico_succ_bot (show 16 + 1 + 1 < 20 by decide), bigSep_Ico_one (16 + 1 + 1 + 1)]
  iintro ⟨#Hkn, H0, H1, H2, H3⟩
  imod (close_send m c 16 (by decide)) $$ [H0] with H0
  · isplitr; · iexact Hkn
    iexact H0
  imod (close_send m c (16 + 1) (by decide)) $$ [H1] with H1
  · isplitr; · iexact Hkn
    iexact H1
  imod (close_send m c (16 + 1 + 1) (by decide)) $$ [H2] with H2
  · isplitr; · iexact Hkn
    iexact H2
  imod (close_send m c (16 + 1 + 1 + 1) (by decide)) $$ [H3] with H3
  · isplitr; · iexact Hkn
    iexact H3
  imodintro
  isplitl [H0]; · iexact H0
  isplitl [H1]; · iexact H1
  isplitl [H2] <;> iassumption

theorem ahead_end (c : Dev nD) : (ahead m c (0 + 1 + 15) : sProp 𝕄) = iprop(xWhole m c ∗ inFree c 0) := by
  unfold ahead; rw [if_neg (by decide)]
  unfold inFree inPt inCell; rw [inSet_congr (show (0 + 1 + 15) % 2 = 0 % 2 from rfl)]; rfl
theorem inFree_end (c : Dev nD) : (inFree c (0 + 1 + 15 + 1) : sProp 𝕄) = inFree c 1 := by
  unfold inFree inPt inCell; rw [inSet_congr (show (0 + 1 + 15 + 1) % 2 = 1 % 2 from rfl)]; rfl

theorem exchange_sound (c d : Dev nD) (hd : d = peer c) (K : PUnit → sProp 𝕄) :
    iprop(known m ∗ before m c ∗ (after m c -∗ K ⟨⟩)) ⊢ run c (exchange d) K := by
  unfold exchange
  simp only [run_bind]
  unfold before
  rw [slotsFree]
  iintro ⟨#Hkn, ⟨Hx, Hy, Hi0, Hi1, ⟨Hs, Hs1, Hs2, Hs3⟩, Hts, Hds, ⟨Htb, Hcb, Hab⟩, HO⟩, Hk⟩
  icases (x_split m c 0).1 $$ Hx with ⟨Hx0, Hx⟩
  iapply (step_fetch m c 0 _)
  isplitl [Hx0]; · iexact Hx0
  isplitl [Hi0]; · iexact Hi0
  iintro Hf
  iapply (step_signal m c d hd _)
  isplitr; · iexact Hkn
  isplitl [HO]; · iexact HO
  isplitl [Htb]; · iexact Htb
  isplitl [Hy]; · iexact Hy
  iintro HO
  iapply (step_front m c 0 0 (by decide) _)
  isplitr; · iexact Hkn
  isplitl [Hf Hx]
  · unfold ahead; rw [if_pos (by decide)]
    isplitl [Hf] <;> iassumption
  isplitl [Hi1]; · iexact Hi1
  isplitl [Hs]; · iexact Hs
  isplitl [HO]; · iexact HO
  iintro ⟨Ha, Hin, Hs, HO⟩
  iapply (step_round m c 0 _)
  isplitl [Hin]; · iexact Hin
  isplitl [Hs]; · iexact Hs
  iintro ⟨Hi, Hs⟩
  iapply (step_barrier m c _)
  isplitr; · iexact Hkn
  isplitl [Hcb]; · iexact Hcb
  isplitl [Hab]; · iexact Hab
  isplitl [HO]; · iexact HO
  iintro ⟨⟨%f, Hy⟩, Hvb, HO⟩
  ihave Hys := (Entails.of_eq (y_chunks (peer c) f)) $$ Hy
  iapply (step_give m c d hd f 0 (by decide) _)
  isplitr; · iexact Hkn
  isplitl [Ha]; · iexact Ha
  isplitl [Hi]; · iexact Hi
  isplitl [Hs]; · iexact Hs
  isplitl [Hs1 Hs2 Hs3]
  · isplitl [Hs1]; · iexact Hs1
    isplitl [Hs2] <;> iassumption
  isplitl [Hts]; · iexact Hts
  isplitl [Hys]; · iexact Hys
  isplitl [HO]; · iexact HO
  iintro HI
  iapply (run_upto m c (chunk d) (inv m c f) 15 (0 + 1) (fun j _ hj K => step_chunk m c d hd f j (by omega) K) _)
  isplitr; · iexact Hkn
  isplitl [HI]; · iexact HI
  iintro HI
  unfold inv
  icases HI with ⟨Ha, Hi1, Hs, -, -, HO⟩
  ihave Hs := (Entails.of_eq (slotsBusy c)) $$ Hs
  iapply (run_upto m c sent (leaving c) 4 12 (fun j hj hj' K => step_leaving m c j hj (by omega) K) _)
  isplitr; · iexact Hkn
  isplitl [Hs HO]
  · unfold leaving
    isplitl [Hs]; · iexact Hs
    rw [show Finset.Ico 16 (12 + 4) = ∅ from rfl, bigSep_empty]
    isplitr; · iempintro
    iexact HO
  iintro HI
  unfold leaving
  icases HI with ⟨-, Hs, HO⟩
  rw [debt_end]
  have hlast := run_upto m c arrived (coming m c) 16 0 (fun j _ hj K => step_coming m c j (by omega) K) K
  unfold run at hlast ⊢
  imod (slotsClose m c) $$ [Hs] with Hs
  · isplitr; · iexact Hkn
    iexact Hs
  iapply hlast
  isplitr; · iexact Hkn
  isplitl [Hds HO]
  · unfold coming
    isplitl [Hds]; · iexact Hds
    rw [show Finset.Ico 0 0 = ∅ from rfl, bigSep_empty, bigSep_empty]
    isplitr; · iempintro
    isplitr; · iempintro
    iexact HO
  iintro HI
  unfold coming
  icases HI with ⟨-, Hy, Hvs, HO⟩
  iapply Hk
  unfold after
  icases (Entails.of_eq (ahead_end m c)) $$ Ha with ⟨Hx, Hi0⟩
  isplitl [Hx]; · iexact Hx
  isplitl [Hy]; · iapply (Entails.of_eq (y_chunks c (res m c)).symm); iexact Hy
  isplitl [Hi0]; · iexact Hi0
  isplitl [Hi1]; · iapply (Entails.of_eq (inFree_end c)); iexact Hi1
  isplitl [Hs]; · iexact Hs
  isplitl [Hvs]; · iexact Hvs
  isplitl [Hvb] <;> iassumption

end Cert.Proof.Swap

end
-- ==== Proof.Body.lean ====
/- The kernel's body on one device, from what the launch gives it to what it hands back. -/
module

public import proofs.«01_k».proof.Proof.Exchange

@[expose] public section

noncomputable section

namespace Cert.Proof.Swap

open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The scratch buffers and their slots -/

theorem mem_inSet (k : Nat) (i : S2x256x2048.Idx) : i ∈ inSet k ↔ (i 0).val = k % 2 := by
  unfold inSet inR
  rw [Rect.mem_set_unit]
  constructor
  · intro h
    have h0 : k % 2 ≤ (i 0).val ∧ (i 0).val < k % 2 + 1 := h 0
    omega
  · intro h a
    fin_cases a
    · exact ⟨Nat.le_of_eq h.symm, show (i 0).val < k % 2 + 1 by omega⟩
    · exact ⟨Nat.zero_le _, by have := (i 1).isLt; show (i 1).val < 0 + 256; exact (Nat.zero_add 256).symm ▸ this⟩
    · exact ⟨Nat.zero_le _, by have := (i 2).isLt; show (i 2).val < 0 + 2048; exact (Nat.zero_add 2048).symm ▸ this⟩
theorem mem_slotSet (k : Nat) (i : S4x256x2048.Idx) : i ∈ slotSet k ↔ (i 0).val = k % 4 := by
  unfold slotSet slotR
  rw [Rect.mem_set_unit]
  constructor
  · intro h
    have h0 : k % 4 ≤ (i 0).val ∧ (i 0).val < k % 4 + 1 := h 0
    omega
  · intro h a
    fin_cases a
    · exact ⟨Nat.le_of_eq h.symm, show (i 0).val < k % 4 + 1 by omega⟩
    · exact ⟨Nat.zero_le _, by have := (i 1).isLt; show (i 1).val < 0 + 256; exact (Nat.zero_add 256).symm ▸ this⟩
    · exact ⟨Nat.zero_le _, by have := (i 2).isLt; show (i 2).val < 0 + 2048; exact (Nat.zero_add 2048).symm ▸ this⟩

theorem inSet_disjoint : ∀ j ∈ Finset.Ico 0 2, ∀ k ∈ Finset.Ico 0 2, j ≠ k → Disjoint (inSet j) (inSet k) := by
  intro j hj k hk hne
  rw [Finset.mem_Ico] at hj hk
  rw [Finset.disjoint_left]
  intro i h h'
  rw [mem_inSet] at h h'
  omega
theorem inSet_cover : (Finset.Ico 0 2).biUnion inSet = Finset.univ := by
  refine Finset.eq_univ_iff_forall.mpr fun i => Finset.mem_biUnion.mpr ?_
  have hi : (i 0).val < 2 := (i 0).isLt
  exact ⟨(i 0).val, Finset.mem_Ico.mpr ⟨Nat.zero_le _, hi⟩, (mem_inSet _ i).mpr (by omega)⟩
theorem slotSet_disjoint (a : Nat) : ∀ j ∈ Finset.Ico (4 * a) (4 * a + 4), ∀ k ∈ Finset.Ico (4 * a) (4 * a + 4), j ≠ k → Disjoint (slotSet j) (slotSet k) := by
  intro j hj k hk hne
  rw [Finset.mem_Ico] at hj hk
  rw [Finset.disjoint_left]
  intro i h h'
  rw [mem_slotSet] at h h'
  omega
theorem slotSet_cover (a : Nat) : (Finset.Ico (4 * a) (4 * a + 4)).biUnion slotSet = Finset.univ := by
  refine Finset.eq_univ_iff_forall.mpr fun i => Finset.mem_biUnion.mpr ?_
  have hi : (i 0).val < 4 := (i 0).isLt
  exact ⟨4 * a + (i 0).val, Finset.mem_Ico.mpr ⟨Nat.le_add_right _ _, by omega⟩, (mem_slotSet _ i).mpr (by omega)⟩

/-- The two scratch buffers, at some contents. -/
def inBuf (c : Dev nD) : sProp 𝕄 := iprop(∃ f : Buf (Elt F) ((c.tc : Thread nD τ).loc cc0_scratch0), (c.tc : Thread nD τ).loc cc0_scratch0 ↦{fullShare} f)
def slotBuf (c : Dev nD) : sProp 𝕄 := iprop(∃ f : Buf (Elt F) ((c.tc : Thread nD τ).loc cc0_scratch1), (c.tc : Thread nD τ).loc cc0_scratch1 ↦{fullShare} f)

theorem in_split (c : Dev nD) : inBuf c ⊢ (iprop((∃ f, inPt c 0 f) ∗ (∃ f, inPt c 1 f)) : sProp 𝕄) := by
  unfold inBuf
  iintro ⟨%f, H⟩
  have h := pointsTo_biUnion (Ix := Unit) (Name := ℕ) (U := UU) (Lvl := ℕ) (Val := Elt F) (ℓ := (c.tc : Thread nD τ).loc cc0_scratch0) (q := fullShare) (f := f)
    (Finset.Ico 0 2) inSet inSet_disjoint
  rw [inSet_cover, bigSep_Ico_succ_bot (by decide), bigSep_Ico_one] at h
  icases (Entails.of_eq h) $$ H with ⟨H0, H1⟩
  isplitl [H0]
  · iexists f; unfold inPt; iexact H0
  · iexists f; unfold inPt; iexact H1

theorem in_join (c : Dev nD) : (iprop((∃ f, inPt c 0 f) ∗ (∃ f, inPt c 1 f)) : sProp 𝕄) ⊢ inBuf c := by
  have h := fun (fs : ℕ → Buf (Elt F) ((c.tc : Thread nD τ).loc cc0_scratch0)) =>
    pointsTo_biUnion_join (Ix := Unit) (Name := ℕ) (U := UU) (Lvl := ℕ) (q := fullShare)
      (Finset.Ico 0 2) inSet fs (fs 0) inSet_disjoint
  iintro ⟨⟨%f, H0⟩, ⟨%g, H1⟩⟩
  ihave H := (h fun k => if k = 0 then f else g) $$ [H0 H1]
  · rw [bigSep_Ico_succ_bot (by decide), bigSep_Ico_one]
    isplitl [H0]
    · unfold inPt; iexact H0
    · unfold inPt; iexact H1
  icases H with ⟨%e, -, H⟩
  unfold inBuf
  iexists e
  rw [inSet_cover]
  iexact H

theorem slot_split (c : Dev nD) : slotBuf c ⊢ (bigSep (Finset.Ico 0 4) fun j => iprop(∃ f, slotPt c j f) : sProp 𝕄) := by
  unfold slotBuf
  iintro ⟨%f, H⟩
  have h := pointsTo_biUnion (Ix := Unit) (Name := ℕ) (U := UU) (Lvl := ℕ) (Val := Elt F) (ℓ := (c.tc : Thread nD τ).loc cc0_scratch1) (q := fullShare) (f := f)
    (Finset.Ico 0 4) slotSet (slotSet_disjoint 0)
  rw [slotSet_cover 0] at h
  have h1 : ∀ j, (slotPt c j f : sProp 𝕄) ⊢ iprop(∃ f, slotPt c j f) := fun j => by iintro H; iexists f; iexact H
  ihave H := (Entails.of_eq h) $$ H
  iapply (show (bigSep (Finset.Ico 0 4) fun j => slotPt c j f : sProp 𝕄) ⊢ bigSep (Finset.Ico 0 4) fun j => iprop(∃ f, slotPt c j f) from
    bigSep_mono fun j _ => h1 j)
  iexact H

theorem slot_join (c : Dev nD) : (bigSep (Finset.Ico 16 20) fun j => iprop(∃ f, slotPt c j f) : sProp 𝕄) ⊢ slotBuf c := by
  have h := fun (fs : ℕ → Buf (Elt F) ((c.tc : Thread nD τ).loc cc0_scratch1)) =>
    pointsTo_biUnion_join (Ix := Unit) (Name := ℕ) (U := UU) (Lvl := ℕ) (q := fullShare)
      (Finset.Ico 16 20) slotSet fs (fs 0) (slotSet_disjoint 4)
  iintro H
  ihave H := (BI.bigSep_exists_pi (Finset.Ico 16 20) (fun (j : ℕ) (f : Buf (Elt F) ((c.tc : Thread nD τ).loc cc0_scratch1)) => (slotPt c j f : sProp 𝕄))) $$ H
  icases H with ⟨%fs, H⟩
  ihave H := (h fs) $$ [H]
  · iexact H
  icases H with ⟨%e, -, H⟩
  unfold slotBuf
  iexists e
  rw [show (Finset.Ico 16 20).biUnion slotSet = Finset.univ from slotSet_cover 4]
  iexact H

/-! ## What the body starts with and ends with -/

theorem sprinkle {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h' : bigSep S (fun i => iprop(R ∗ Φ i)) ⊢ bigSep S Ψ := bigSep_mono h
  iintro ⟨HR, H⟩
  ihave HR := (BI.bigSep_of_persistent S R) $$ HR
  iapply h'
  iapply (Entails.of_eq (bigSep_sep' S (fun _ => R) Φ).symm)
  isplitl [HR] <;> iassumption

/-- The ghost state that is a device's own, -/
def linear (c : Dev nD) : sProp 𝕄 :=
  iprop((semVal (inCell c 0) 0 ∗ semVal (inCell c 1) 0) ∗ (bigSep (Finset.Ico 0 4) fun j => atPos ER (sendCell c j) 0 ∅ 0)
    ∗ (bigSep (Finset.Ico 0 16) fun j => toks c j) ∗ (bigSep (Finset.Ico 0 16) fun j => atPos ER (recvCell c j) 0 ∅ 0)
    ∗ dutyTok ER (barCell (peer c)) 0 () ∗ atPos ER (barCell c) 0 ∅ 0)
/-- and with what every device knows. -/
def ghost (c : Dev nD) : sProp 𝕄 := iprop(known m ∗ linear c)
/-- With the argument, the result's buffer and the credit of the waits; -/
def start (c : Dev nD) : sProp 𝕄 :=
  iprop(ghost m c ∗ xWhole m c ∗ (∃ f, (c.tc : Thread nD τ).loc main_v1 ↦{fullShare} f)
    ∗ (bigSep (Finset.Ico 0 16) fun j => cred (tallyAt (recvCell c j) () N)) ∗ cred (tallyAt (barCell c) () 1))
/-- the semaphores again at zero. -/
def zeros (c : Dev nD) : sProp 𝕄 :=
  iprop((semVal (inCell c 0) 0 ∗ semVal (inCell c 1) 0) ∗ (bigSep (Finset.Ico 16 20) fun j => semVal (sendCell c j) 0)
    ∗ (bigSep (Finset.Ico 0 16) fun j => semVal (recvCell c j) 0))
def Φ₀ (c : Dev nD) : sProp 𝕄 := iprop(start m c ∗ inBuf c ∗ slotBuf c)
def Φ₁ (c : Dev nD) : sProp 𝕄 :=
  iprop(xWhole m c ∗ ((c.tc : Thread nD τ).loc main_v1 ↦{fullShare} res m c) ∗ zeros c ∗ semVal (barCell c) 0 ∗ inBuf c ∗ slotBuf c)

theorem before_of (c : Dev nD) : iprop(Φ₀ m c ∗ owing c (O₀ c)) ⊢ iprop(known m ∗ before m c) := by
  unfold Φ₀ start ghost linear
  iintro ⟨⟨⟨⟨#Hkn, ⟨Hv0, Hv1⟩, Hps, Hts, Hpr, Htb, Hpb⟩, Hx, Hy, Hcr, Hcb⟩, Hi, Hs⟩, HO⟩
  isplitr; · iexact Hkn
  unfold before
  isplitl [Hx]; · iexact Hx
  isplitl [Hy]; · iexact Hy
  icases (in_split c) $$ Hi with ⟨Hi0, Hi1⟩
  unfold inFree
  isplitl [Hi0 Hv0]; · isplitl [Hi0] <;> iassumption
  isplitl [Hi1 Hv1]; · isplitl [Hi1] <;> iassumption
  isplitl [Hs Hps]
  · ihave Hs := (slot_split c) $$ Hs
    ihave H := (Entails.of_eq (bigSep_sep' (Finset.Ico 0 4) (fun j => iprop(∃ f, slotPt (F := F) c j f)) (fun j => atPos ER (sendCell c j) 0 ∅ 0)).symm) $$ [Hs Hps]
    · isplitl [Hs] <;> iassumption
    iapply (sprinkle (R := known m) fun j hj => ?_) $$ [H]
    rotate_left
    · isplitr; · iexact Hkn
      iexact H
    · have h0 : j / 4 = 0 := Nat.div_eq_of_lt (Finset.mem_Ico.mp hj).2
      unfold slotFree
      rw [h0]
      iintro ⟨#Hkn, Hs, Hp⟩
      isplitl [Hs]; · iexact Hs
      isplitl [Hp]; · iexact Hp
      ihave H := (known_send m c j) $$ Hkn
      unfold kept
      icases H with ⟨-, H⟩
      iexact H
  isplitl [Hts]; · iexact Hts
  isplitl [Hcr Hpr]
  · unfold due
    iapply (Entails.of_eq (bigSep_sep' (Finset.Ico 0 16) (fun j => cred (tallyAt (recvCell c j) () N)) (fun j => atPos ER (recvCell c j) 0 ∅ 0)).symm)
    isplitl [Hcr] <;> iassumption
  isplitl [Htb Hcb Hpb]
  · isplitl [Htb]; · iexact Htb
    isplitl [Hcb] <;> iassumption
  iexact HO

theorem after_to (c : Dev nD) : after m c ⊢ iprop(Φ₁ m c ∗ owing c 0) := by
  unfold after inFree
  iintro ⟨Hx, Hy, ⟨Hi0, Hv0⟩, ⟨Hi1, Hv1⟩, Hs, Hvs, Hvb, HO⟩
  icases (Entails.of_eq (bigSep_sep' (Finset.Ico 16 20) (fun j => iprop(∃ f, slotPt (F := F) c j f)) (fun j => semVal (sendCell c j) 0))) $$ Hs with ⟨Hs, Hvd⟩
  isplitr [HO]
  · unfold Φ₁ zeros
    isplitl [Hx]; · iexact Hx
    isplitl [Hy]; · iexact Hy
    isplitl [Hv0 Hv1 Hvd Hvs]
    · isplitl [Hv0 Hv1]; · isplitl [Hv0] <;> iassumption
      isplitl [Hvd] <;> iassumption
    isplitl [Hvb]; · iexact Hvb
    isplitl [Hi0 Hi1]
    · iapply (in_join c); isplitl [Hi0] <;> iassumption
    iapply (slot_join c); iexact Hs
  iexact HO

end Cert.Proof.Swap

end
-- ==== Proof.Core.lean ====
/- The word a device reads, and the library's obligation for the body. -/
module

public import proofs.«01_k».proof.Proof.Body
public import Idealize.ShloMosaic.Lib.Scf

@[expose] public section

noncomputable section

namespace Cert.Proof.Swap

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The permutation and the word read -/

/-- Device `c`'s permutation at the launch, and its element `k`. -/
abbrev piOf (c : Dev nD) : IVec S2 32 := m ((c.tc : Thread nD τ).loc main_arg1)
def pAt (k : Fin 2) : S2.Idx := fun a => ⟨k.val, by fin_cases a; exact k.isLt⟩

/-- The permutation exchanges the two columns, on every device. -/
def PreOK : Prop := ∀ (c : Dev nD) (k : Fin 2), piOf m c (pAt k) = BitVec.ofNat 32 (1 - k.val)

/-- The permutation as staged, and the word the body reads of it. -/
def piStg (c : Dev nD) : (cc0_stg0_0 : Ref sig .tc).ty.Contents (Elt F) :=
  (win0_0.blk (0 : Fin 1)).view.read (Elt F) (m ((c.tc : Thread nD τ).loc main_arg1))
abbrev wordR (c : Dev nD) : Rect S2 := Rect.unit (s := S2) (k0_off1 c) S1.size (k0_off1_inb c)
abbrev word (c : Dev nD) (ts : (cc0_stg0_0 : Ref sig .tc).ty.Contents (Elt F)) : BitVec 32 :=
  ((Memref.whole cc0_stg0_0).access (wordR c) : View sig .tc _ _ _).read (Elt F) ts (Shape.Idx.first (s := S1) (numel1_S1.symm ▸ Nat.one_pos))

def col (c : Dev nD) : Fin 2 := ⟨c.val % 2, Nat.mod_lt _ (by decide)⟩

theorem word_eq (c : Dev nD) : word (F := F) c (piStg m c) = piOf m c (pAt (col c)) := by
  show m ((c.tc : Thread nD τ).loc main_arg1) _ = _
  refine congrArg _ (funext fun a => Fin.ext ?_)
  fin_cases a; fin_cases c <;> rfl

theorem word_swap (h : PreOK m) (c : Dev nD) : word (F := F) c (piStg m c) = BitVec.ofNat 32 (1 - c.val % 2) := by
  rw [word_eq, h]; rfl

theorem chk_swap (c : Dev nD) : k0_chk1 c (BitVec.ofNat 32 (1 - c.val % 2)) := by revert c; decide +kernel
theorem cond_swap (c : Dev nD) : k0_cond2 c (BitVec.ofNat 32 (1 - c.val % 2)) = 1#1 := by revert c; decide +kernel
theorem dev_swap (c : Dev nD) : k0_dev1 c (BitVec.ofNat 32 (1 - c.val % 2)) = (peer c).val := by revert c; decide +kernel
theorem own_swap (c : Dev nD) : ¬ Scalar.cmpi .ne (Scalar.extui (Scalar.cmpi .eq (BitVec.ofNat 32 (1 - c.val % 2))
    (Scalar.remsi (Scalar.divsi (Dev.word c) 1#32) 2#32)) : BitVec 32) 0#32 = 1#1 := by revert c; decide +kernel

theorem word_chk (h : PreOK m) (c : Dev nD) : k0_chk1 c (word (F := F) c (piStg m c)) := by rw [word_swap m h]; exact chk_swap c
theorem word_cond (h : PreOK m) (c : Dev nD) : k0_cond2 c (word (F := F) c (piStg m c)) = 1#1 := by rw [word_swap m h]; exact cond_swap c
theorem word_dest (h : PreOK m) (c : Dev nD) (hw) (h2) : dest c (word (F := F) c (piStg m c)) hw h2 = peer c :=
  Fin.ext (by show k0_dev1 c (word (F := F) c (piStg m c)) = _; rw [word_swap m h]; exact dev_swap c)
theorem word_own (h : PreOK m) (c : Dev nD) : ¬ Scalar.cmpi .ne (Scalar.extui (Scalar.cmpi .eq (word (F := F) c (piStg m c))
    (Scalar.remsi (Scalar.divsi (Dev.word c) 1#32) 2#32)) : BitVec 32) 0#32 = 1#1 := by rw [word_swap m h]; exact own_swap c

/-! ## The pipeline's data -/

def dats (_ : Fin 1) (c : Dev nD) : Dat τ (Elt F) Unit ℕ UU ℕ cfg0 c where
  A w := m ((cfg0.win w).arr.view.loc (c.tc : Thread nD τ))
  after w _ := match w with
    | ⟨0, _⟩ => piStg m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_stg (c : Dev nD) (b : Ref sig .tc) (f : b.ty.Contents (Elt F)) :
    (owns (Ix := Unit) (Name := ℕ) (U := UU) (Lvl := ℕ) (c.tc : Thread nD τ) (Memref.whole b) fullShare f : sProp 𝕄)
      = iprop(∃ g : Buf (Elt F) ((c.tc : Thread nD τ).loc b), ⌜g = f⌝ ∗ ((c.tc : Thread nD τ).loc b ↦{fullShare} g)) := by
  unfold owns; simp only [Memref.view_whole, View.read_whole, View.set_whole]

abbrev stg (c : Dev nD) (f : (cc0_stg0_0 : Ref sig .tc).ty.Contents (Elt F)) : sProp 𝕄 :=
  iprop(∃ g : Buf (Elt F) ((c.tc : Thread nD τ).loc cc0_stg0_0), ⌜g = f⌝ ∗ ((c.tc : Thread nD τ).loc cc0_stg0_0 ↦{fullShare} g))

/-! ## The body -/

def bodyPre (c : Dev nD) : sProp 𝕄 :=
  iprop(Φ₀ m c ∗ (dats m 0 c).owesAt () t0_0.castSucc ∗ (∃ d, stg c ((dats m 0 c).before (0 : Fin 1) t0_0 d)))
def bodyPost (c : Dev nD) : sProp 𝕄 :=
  iprop(Φ₁ m c ∗ (dats m 0 c).owesAt () t0_0.succ ∗ stg c (piStg m c))

abbrev piM : Memref sig .tc .smem S2 .i32 := Memref.whole cc0_stg0_0

theorem body_sound (h : PreOK m) (c : Dev nD) :
    bodyPre m c ⊢ run c (cc0_body (F := F) piM (Memref.isWhole_whole _) xM (Memref.isWhole_whole _) yM (Memref.isWhole_whole _)
      inM (Memref.isWhole_whole _) slotM (Memref.isWhole_whole _) cc0_scratch2 cc0_scratch3 cc0_scratch4) (fun _ => bodyPost m c) := by
  unfold run
  rw [cc0_body_eq_skeleton]; unfold cc0_body_skel
  rw [k0_part44_eq_skeleton]; unfold k0_part44_skel
  simp only [smemLoad, smemLoadElt, Prog.lift, Prog.bind_op, Prog.bind_ret, Prog.pure_eq_ret, Prog.bind_assoc, wp_deviceId]
  unfold bodyPre
  iintro ⟨HΦ, Ho, ⟨%d, %g, %hg, Ht⟩⟩
  have ht : g = piStg m c := by rw [hg]; unfold Dat.before; rw [if_pos (by rfl)]; rfl
  subst ht
  unfold Dat.owesAt Pipeline.owesWithin
  icases Ho with ⟨%W, %hW, HO⟩
  rw [show (dats m 0 c).owed t0_0.castSucc = O₀ c from rfl]
  iapply (wp_load_rect 𝒱₀ (c.tc : Thread nD τ) none Set.univ (m := piM) (r := wordR c) (Finset.subset_univ _)) $$ Ht; iintro Ht
  simp only [wp_assume_of _ _ _ _ (d := k0_chk1.dec _ _) (word_chk m h c)]
  rw [branch_eq piM (Memref.isWhole_whole _) c _ _ _ _ (word_chk m h c) (word_cond m h c) (word_own m h c)]
  rw [wp_bind]
  ihave H := (before_of m c) $$ [HΦ HO]
  · isplitl [HΦ]; · iexact HΦ
    unfold owing; iexists W; iexact HO
  icases H with ⟨#Hkn, Hb⟩
  iapply (exchange_sound m c _ (word_dest m h c _ _) _)
  isplitr; · iexact Hkn
  isplitl [Hb]; · iexact Hb
  iintro Ha
  icases (after_to m c) $$ Ha with ⟨HΦ, HO⟩
  rw [wp_ret]; imodintro
  unfold bodyPost Dat.owesAt Pipeline.owesWithin
  rw [show (dats m 0 c).owed t0_0.succ = 0 from rfl]
  isplitl [HΦ]; · iexact HΦ
  isplitl [HO]
  · unfold owing
    icases HO with ⟨%W', HO⟩
    iexists W'
    isplitr; · ipureintro; exact fun _ _ => Or.inl trivial
    iexact HO
  iexists _; isplitr; · (ipureintro; rfl)
  iexact Ht

set_option maxRecDepth 4000 in
theorem body_obligation (h : PreOK m) (c : Dev nD) : BodyObligation (dats m 0 c) (defs₀ (F := F)) 𝒱₀ () Set.univ := fun t => by
  rw [fin_N0 t]
  rw [bigSep_W0, bigSep_W0]
  simp only [owns_stg]
  exact body_sound m h c

end Cert.Proof.Swap

end
-- ==== Proof.Launch.lean ====
/- The launch: the exchange's cells set up on every device, and the run from any memory. -/
module

public import proofs.«01_k».proof.Proof.Core
public import proofs.«01_k».proof.Proof.Gen.Kernel.Launch
public import Idealize.ShloMosaic.Lib.Pipeline.Launch
public import Idealize.ShloMosaic.Lib.Pipeline.CollectiveSegs
public import Idealize.ShloMosaic.Lib.Ring

@[expose] public section

noncomputable section

namespace Cert.Proof.Swap

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families in three runs -/

theorem bigSep_shift (A : ℕ → sProp 𝕄) (a n : ℕ) :
    bigSep (Finset.Ico a (a + n)) A = bigSep (Finset.Ico 0 n) fun j => A (a + j) := by
  rw [show Finset.Ico a (a + n) = (Finset.Ico 0 n).map (addLeftEmbedding a) from by
    ext x; simp only [Finset.mem_map, Finset.mem_Ico, addLeftEmbedding_apply]
    exact ⟨fun h => ⟨x - a, by omega, by omega⟩, fun ⟨y, hy, e⟩ => by omega⟩]
  exact BI.bigSep_map _

theorem bigSep_runs (a n k : ℕ) (Φ : Fin (a + n + k) → sProp 𝕄) (A B C : ℕ → sProp 𝕄)
    (hA : ∀ j (h : j < a), A j = Φ ⟨j, by omega⟩) (hB : ∀ j (h : j < n), B j = Φ ⟨a + j, by omega⟩)
    (hC : ∀ j (h : j < k), C j = Φ ⟨a + n + j, by omega⟩) :
    bigSep Finset.univ Φ = iprop(bigSep (Finset.Ico 0 a) A ∗ bigSep (Finset.Ico 0 n) B ∗ bigSep (Finset.Ico 0 k) C) := by
  let Ψ : ℕ → sProp 𝕄 := fun t => if h : t < a + n + k then Φ ⟨t, h⟩ else iprop(emp)
  have hΨ : ∀ t (h : t < a + n + k), Ψ t = Φ ⟨t, h⟩ := fun t h => dif_pos h
  rw [Ring.bigSep_fin_eq_range (a + n + k) Φ Ψ hΨ, Finset.range_eq_Ico,
    ← Finset.Ico_union_Ico_eq_Ico (Nat.zero_le (a + n)) (Nat.le_add_right _ k),
    BI.bigSep_union (Finset.Ico_disjoint_Ico_consecutive 0 (a + n) (a + n + k)),
    ← Finset.Ico_union_Ico_eq_Ico (Nat.zero_le a) (Nat.le_add_right a n),
    BI.bigSep_union (Finset.Ico_disjoint_Ico_consecutive 0 a (a + n)), bigSep_shift Ψ a n, bigSep_shift Ψ (a + n) k,
    BI.bigSep_congr (s := Finset.Ico 0 a) (Φ := Ψ) (Ψ := A) fun j hj => (hΨ j (by have := Finset.mem_Ico.mp hj; omega)).trans (hA j (Finset.mem_Ico.mp hj).2).symm,
    BI.bigSep_congr (s := Finset.Ico 0 n) (Φ := fun j => Ψ (a + j)) (Ψ := B) fun j hj => (hΨ (a + j) (by have := Finset.mem_Ico.mp hj; omega)).trans (hB j (Finset.mem_Ico.mp hj).2).symm,
    BI.bigSep_congr (s := Finset.Ico 0 k) (Φ := fun j => Ψ (a + n + j)) (Ψ := C) fun j hj => (hΨ (a + n + j) (by have := Finset.mem_Ico.mp hj; omega)).trans (hC j (Finset.mem_Ico.mp hj).2).symm]
  have h1 : ∀ P Q R : sProp 𝕄, iprop((P ∗ Q) ∗ R) ⊢ iprop(P ∗ Q ∗ R) := fun P Q R => by
    iintro ⟨⟨HP, HQ⟩, HR⟩; isplitl [HP]; · iexact HP
    isplitl [HQ] <;> iassumption
  have h2 : ∀ P Q R : sProp 𝕄, iprop(P ∗ Q ∗ R) ⊢ iprop((P ∗ Q) ∗ R) := fun P Q R => by
    iintro ⟨HP, HQ, HR⟩; isplitr [HR]
    · isplitl [HP] <;> iassumption
    iexact HR
  exact BI.Entails.antisymm (h1 _ _ _) (h2 _ _ _)

/-- A device's cells of the exchange, by kind. -/
theorem cells_eq (Ψ : GSem nD τ sig → sProp 𝕄) (c : Dev nD) :
    (bigSep Finset.univ fun i : Fin 21 => Ψ (kcell (c, i)))
      = iprop(Ψ (barCell c) ∗ (bigSep (Finset.Ico 0 4) fun j => Ψ (sendCell c j)) ∗ (bigSep (Finset.Ico 0 16) fun j => Ψ (recvCell c j))) := by
  have h := bigSep_runs 1 4 16 (fun i => Ψ (kcell (c, i))) (fun _ => Ψ (barCell c)) (fun j => Ψ (sendCell c j)) (fun j => Ψ (recvCell c j))
    (fun j h => by obtain rfl : j = 0 := by omega
                   rfl)
    (fun j h => by rw [← kcell_send c j]; exact congrArg (fun i => Ψ (kcell (c, i))) (Fin.ext (by show 1 + j % 4 = 1 + j; omega)))
    (fun j h => by rw [← kcell_recv c j]; exact congrArg (fun i => Ψ (kcell (c, i))) (Fin.ext (by show 5 + j % 16 = 5 + j; omega)))
  rw [show (bigSep (Finset.Ico 0 1) fun _ => Ψ (barCell c)) = Ψ (barCell c) from bigSep_Ico_one 0 _] at h
  exact h

/-! ## The launch's ghost state -/

theorem csem_injective : Function.Injective csem := by decide
theorem kcell_injective : Function.Injective kcell := fun x y h =>
  Prod.ext (congrArg (fun g : GSem nD τ sig => g.1.1) h) (csem_injective (congrArg Prod.snd h))
def allCells : Finset (GSem nD τ sig) := Finset.univ.map ⟨kcell, kcell_injective⟩

/-- The duties of a device's cells: the barrier's, a slot's in each of four rounds, an arrival's. -/
def duty (i : Fin 33) : Fin 21 × ℕ :=
  if i.val = 0 then (0, 0) else if i.val < 17 then (⟨1 + (i.val - 1) % 4, by omega⟩, (i.val - 1) / 4) else (⟨5 + (i.val - 17) % 16, by omega⟩, 0)
theorem duty_injective : Function.Injective duty := by decide
def tokOf (x : Dev nD × Fin 33) : GSem nD τ sig × ℕ × Unit := (kcell (x.1, (duty x.2).1), (duty x.2).2, ())
theorem tokOf_injective : Function.Injective tokOf := fun x y h => by
  have h1 := kcell_injective (congrArg Prod.fst h)
  have h2 : (duty x.2).2 = (duty y.2).2 := congrArg (fun t => t.2.1) h
  exact Prod.ext (congrArg (fun t => t.1) h1) (duty_injective (Prod.ext (congrArg (fun t => t.2) h1) h2))
def allToks : Finset (GSem nD τ sig × ℕ × Unit) := Finset.univ.map ⟨tokOf, tokOf_injective⟩

def u₀ : UU :=
  (initOf (Pipeline.cells cfgs cellOf_inj) (Pipeline.launchToks cfgs cellOf_inj), (initOf allCells allToks, (1 : Counters)))

/-- The tokens of a device's own cells, -/
def minted (c : Dev nD) : sProp 𝕄 :=
  iprop(dutyTok ER (barCell c) 0 () ∗ (bigSep (Finset.Ico 0 16) fun j => dutyTok ER (sendCell c j) (j / 4) ())
    ∗ (bigSep (Finset.Ico 0 16) fun j => dutyTok ER (recvCell c j) 0 ()))
theorem minted_eq (c : Dev nD) :
    (bigSep Finset.univ fun i : Fin 33 => dutyTok ER (tokOf (c, i)).1 (tokOf (c, i)).2.1 (tokOf (c, i)).2.2 : sProp 𝕄) = minted c := by
  have h := bigSep_runs (F := F) 1 16 16 (fun i => dutyTok ER (tokOf (c, i)).1 (tokOf (c, i)).2.1 (tokOf (c, i)).2.2)
    (fun _ => dutyTok ER (barCell c) 0 ()) (fun j => dutyTok ER (sendCell c j) (j / 4) ()) (fun j => dutyTok ER (recvCell c j) 0 ())
    (fun j h => by obtain rfl : j = 0 := by omega
                   rfl)
    (fun j h => by
      have hd : duty ⟨1 + j, by omega⟩ = (⟨1 + j % 4, by omega⟩, j / 4) := by
        unfold duty; rw [if_neg (by dsimp only; omega), if_pos (by dsimp only; omega)]
        exact Prod.ext (Fin.ext (by dsimp only; omega)) (by dsimp only; rw [Nat.add_sub_cancel_left])
      rw [← kcell_send c j]; unfold tokOf; dsimp only; rw [hd])
    (fun j h => by
      have hd : duty ⟨1 + 16 + j, by omega⟩ = (⟨5 + j % 16, by omega⟩, 0) := by
        unfold duty; rw [if_neg (by dsimp only; omega), if_neg (by dsimp only; omega)]
        exact Prod.ext (Fin.ext (by dsimp only; omega)) rfl
      rw [← kcell_recv c j]; unfold tokOf; dsimp only; rw [hd])
  rw [show (bigSep (Finset.Ico 0 1) fun _ => (dutyTok ER (barCell c) 0 () : sProp 𝕄)) = dutyTok ER (barCell c) 0 () from bigSep_Ico_one 0 _] at h
  unfold minted
  exact h

/-- what the launch deals a device, -/
def G (c : Dev nD) : sProp 𝕄 :=
  iprop((bigSep Finset.univ fun i : Fin 21 => roundState ER (Rd m) (kcell (c, i)) 0)
    ∗ ((bigSep Finset.univ fun i : Fin 21 => atPos ER (kcell (c, i)) 0 ∅ 0) ∗ (bigSep Finset.univ fun i : Fin 21 => reached ER (kcell (c, i)) 0)) ∗ minted c)
/-- and what the devices make of it together. -/
def G' (c : Dev nD) : sProp 𝕄 := iprop((bigSep Finset.univ fun x => kept m (kcell x)) ∗ linear c)

theorem fund_cells : BI.own (ER (initOf allCells allToks)) ⊢ (|==> bigSep Finset.univ (G m) : sProp 𝕄) := by
  have hX (Ψ : GSem nD τ sig → sProp 𝕄) : bigSep allCells Ψ = bigSep Finset.univ fun c : Dev nD => bigSep Finset.univ fun i : Fin 21 => Ψ (kcell (c, i)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => minted_eq c
  iintro H
  imod (Rounds.fund ER (Rd m) allCells allToks) $$ H with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at the launch -/

def osem (i : Fin 22) : SemLoc sig := .dma (⟨i.val + 1, by omega⟩ : Fin 23)
theorem ownSemFacts : Pipeline.OwnSemFacts cfg0.spec osem := by decide
theorem share_eq (c : Dev nD) (w : Fin cfg0.W) : (dats m 0 c).share w = fullShare := by unfold Dat.share; split <;> rfl

/-- The kernel's own semaphores at zero: the fetches', the slots', the arrivals'; -/
theorem ownSems0_eq (c : Dev nD) :
    (Pipeline.ownSems0 (Ix := Unit) (Name := ℕ) (U := UU) (Lvl := ℕ) (Val := Elt F) (τ := τ) osem c : sProp 𝕄)
      = iprop((bigSep (Finset.Ico 0 2) fun j => semVal (inCell c j) 0) ∗ (bigSep (Finset.Ico 0 4) fun j => semVal (sendCell c j) 0)
        ∗ (bigSep (Finset.Ico 0 16) fun j => semVal (recvCell c j) 0)) := by
  unfold Pipeline.ownSems0
  have hq : ∀ (q q' : DmaSem sig), q.val = q'.val → (semVal ((c.tc : Thread nD τ), .dma q) 0 : sProp 𝕄) = semVal ((c.tc : Thread nD τ), .dma q') 0 :=
    fun q q' h => by rw [Fin.ext h]
  exact bigSep_runs (F := F) 2 4 16 (fun i : Fin 22 => semVal ((c.tc : Thread nD τ), osem i) 0)
    (fun j => semVal (inCell c j) 0) (fun j => semVal (sendCell c j) 0) (fun j => semVal (recvCell c j) 0)
    (fun j h => hq _ _ (by rw [inSem_val]; show 1 + j % 2 = j + 1; omega))
    (fun j h => hq _ _ (by rw [sendSem_val]; show 3 + j % 4 = 2 + j + 1; omega))
    (fun j h => hq _ _ (by rw [recvSem_val]; show 7 + j % 16 = 2 + 4 + j + 1; omega))
/-- beside them the barrier's. -/
theorem unscopedSems0_eq (c : Dev nD) : (unscopedSems0 c : sProp 𝕄) = semVal (barCell c) 0 := by
  unfold unscopedSems0; rw [bigSep_eq_bigSepL_of_eq [SemLoc.reg barSem] (by decide) (by decide)]; rfl

theorem sems_eq (c : Dev nD) :
    iprop(Pipeline.ownSems0 (Ix := Unit) (Name := ℕ) (U := UU) (Lvl := ℕ) (Val := Elt F) (τ := τ) osem c ∗ unscopedSems0 c)
      ⊢ (iprop((semVal (inCell c 0) 0 ∗ semVal (inCell c 1) 0) ∗ bigSep Finset.univ fun i : Fin 21 => semVal (kcell (c, i)) 0) : sProp 𝕄) := by
  rw [ownSems0_eq, unscopedSems0_eq, cells_eq (fun g => semVal g 0), bigSep_Ico_succ_bot (by decide), bigSep_Ico_one]
  iintro ⟨⟨HI, HS, HR⟩, HB⟩
  isplitl [HI]; · iexact HI
  isplitl [HB]; · iexact HB
  isplitl [HS] <;> iassumption

theorem zeros_eq (c : Dev nD) : zeros (F := F) c
    ⊢ (Pipeline.ownSems0 (Ix := Unit) (Name := ℕ) (U := UU) (Lvl := ℕ) (Val := Elt F) (τ := τ) osem c : sProp 𝕄) := by
  rw [ownSems0_eq, bigSep_Ico_succ_bot (by decide), bigSep_Ico_one]
  have h : (bigSep (Finset.Ico 16 20) fun j => (semVal (sendCell c j) 0 : sProp 𝕄)) = bigSep (Finset.Ico 0 4) fun j => semVal (sendCell c j) 0 :=
    (bigSep_shift (fun j => semVal (sendCell c j) 0) 16 4).trans (BI.bigSep_congr fun j _ => by
      have hs : sendSem (16 + j) = sendSem j := Fin.ext (by rw [sendSem_val, sendSem_val]; omega)
      exact congrArg (fun q => (semVal ((c.tc : Thread nD τ), SemLoc.dma q) 0 : sProp 𝕄)) hs)
  unfold zeros
  rw [h]

/-! ## The set-up -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 21 => kept m (kcell (c, i)))
          ∗ (semVal (inCell c 0) 0 ∗ semVal (inCell c 1) 0) ∗ (bigSep Finset.univ fun i : Fin 21 => atPos ER (kcell (c, i)) 0 ∅ 0) ∗ minted c) := by
  unfold G
  iintro ⟨Hos, Hus, Hst, ⟨Hat, Hr⟩, Htok⟩
  ihave H := (sems_eq (F := F) c) $$ [Hos Hus]
  · isplitl [Hos] <;> iassumption
  icases H with ⟨Hin, Hv⟩
  have hal : iprop((bigSep Finset.univ fun i : Fin 21 => semVal (kcell (c, i)) 0) ∗ bigSep Finset.univ fun i : Fin 21 => roundState ER (Rd m) (kcell (c, i)) 0)
      ⊢ (|={Set.univ}=> bigSep Finset.univ fun i : Fin 21 => iprop(∃ κ : ℕ, cellInv ER (Rd m) κ (kcell (c, i))) : sProp 𝕄) := by
    rw [← bigSep_sep']
    exact (bigSep_mono fun i _ => (Rounds.body_intro ER (Rd m) (kcell (c, i))).trans inv_alloc).trans (bigSep_fupd _ _)
  imod hal $$ [Hv Hst] with Hinv
  · isplitl [Hv] <;> iassumption
  imodintro
  isplitl [Hinv Hr]
  · unfold kept
    iapply (Entails.of_eq (bigSep_sep' Finset.univ (fun i : Fin 21 => iprop(∃ κ : ℕ, cellInv ER (Rd m) κ (kcell (c, i)))) (fun i => reached ER (kcell (c, i)) 0)).symm)
    isplitl [Hinv] <;> iassumption
  isplitl [Hin]; · iexact Hin
  isplitl [Hat] <;> iassumption

/-- Every token to the device that pays the duty. -/
theorem toks_swapped : (bigSep Finset.univ fun c : Dev nD => (minted c : sProp 𝕄))
    ⊢ bigSep Finset.univ fun c : Dev nD => iprop((bigSep (Finset.Ico 0 16) fun j => toks c j) ∗ dutyTok ER (barCell (peer c)) 0 ()) := by
  unfold minted toks
  simp only [bigSep_sep']
  rw [bigSep_univ_equiv pair (fun c : Dev nD => (dutyTok ER (barCell c) 0 () : sProp 𝕄)),
    bigSep_univ_equiv pair (fun c : Dev nD => (bigSep (Finset.Ico 0 16) fun j => (dutyTok ER (recvCell c j) 0 () : sProp 𝕄)))]
  iintro ⟨HB, HS, HR⟩
  isplitl [HS HR]
  · isplitl [HS]; · iexact HS
    iexact HR
  iexact HB

theorem regroup :
    (bigSep Finset.univ fun c : Dev nD => iprop((bigSep Finset.univ fun i : Fin 21 => kept m (kcell (c, i)))
          ∗ (semVal (inCell c 0) 0 ∗ semVal (inCell c 1) 0) ∗ (bigSep Finset.univ fun i : Fin 21 => atPos ER (kcell (c, i)) 0 ∅ 0) ∗ minted c) : sProp 𝕄)
      ⊢ bigSep Finset.univ (G' m) := by
  have hK := bigSep_univ_prod (fun x : Dev nD × Fin 21 => kept (F := F) m (kcell x))
  have hl : ∀ c ∈ (Finset.univ : Finset (Dev nD)), iprop((bigSep Finset.univ fun x => kept m (kcell x))
      ∗ (semVal (inCell c 0) 0 ∗ semVal (inCell c 1) 0) ∗ (bigSep Finset.univ fun i : Fin 21 => atPos ER (kcell (c, i)) 0 ∅ 0)
      ∗ (bigSep (Finset.Ico 0 16) fun j => toks c j) ∗ dutyTok ER (barCell (peer c)) 0 ()) ⊢ G' m c := fun c _ => by
    rw [cells_eq (fun g => atPos ER g 0 ∅ 0)]
    unfold G' linear
    iintro ⟨#HK, Hin, ⟨HB, HS, HR⟩, Ht, Htb⟩
    isplitr; · iexact HK
    isplitl [Hin]; · iexact Hin
    isplitl [HS]; · iexact HS
    isplitl [Ht]; · iexact Ht
    isplitl [HR]; · iexact HR
    isplitl [Htb] <;> iassumption
  have h3 : ∀ A B C : Dev nD → sProp 𝕄, bigSep Finset.univ (fun c => iprop(A c ∗ B c ∗ C c))
      = iprop(bigSep Finset.univ A ∗ bigSep Finset.univ B ∗ bigSep Finset.univ C) := fun A B C => by rw [bigSep_sep', bigSep_sep']
  rw [bigSep_sep', h3]
  iintro ⟨HK, Hin, Hat, Htok⟩
  ihave HK := (Entails.of_eq hK.symm) $$ HK
  ihave Htok := (toks_swapped (F := F)) $$ Htok
  iapply (sprinkle (R := bigSep Finset.univ fun x => kept m (kcell x)) hl)
  isplitl [HK]; · iexact HK
  iapply (Entails.of_eq (h3 (fun c => iprop(semVal (inCell c 0) 0 ∗ semVal (inCell c 1) 0)) (fun c => bigSep Finset.univ fun i : Fin 21 => atPos ER (kcell (c, i)) 0 ∅ 0)
    (fun c => iprop((bigSep (Finset.Ico 0 16) fun j => toks c j) ∗ dutyTok ER (barCell (peer c)) 0 ()))).symm)
  isplitl [Hin]; · iexact Hin
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at the launch -/

theorem creds (c : Dev nD) : (Pipeline.launchCred O₀ c : sProp 𝕄)
    ⊢ iprop((bigSep (Finset.Ico 0 16) fun j => cred (tallyAt (recvCell c j) () N)) ∗ cred (tallyAt (barCell c) () 1)) := by
  have hO : (O₀ : Dev nD → CellTallies nD τ sig Unit)
      = fun d => (∑ j ∈ Finset.Ico 0 16, tallyAt (recvCell (peer d) j) () N) + tallyAt (barCell (peer d)) () 1 := rfl
  rw [hO, Pipeline.launchCred_add, Pipeline.launchCred_sum (Finset.Ico 0 16) (fun j d => tallyAt (recvCell (peer d) j) () N)]
  have hj : ∀ j ∈ Finset.Ico 0 16, (Pipeline.launchCred (fun d => tallyAt (recvCell (peer d) j) () N) c : sProp 𝕄) ⊢ cred (tallyAt (recvCell c j) () N) :=
    fun j _ => Pipeline.launchCred_tallyAt (.dma (recvSem j)) peer peer peer_peer peer_peer () N c
  exact BI.sep_mono (bigSep_mono hj) (Pipeline.launchCred_tallyAt (.reg barSem) peer peer peer_peer peer_peer () 1 c)

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Hx, Hy⟩, Hlev, Hcr, -, ⟨HK, Hl⟩⟩
  ihave Hc := (creds (F := F) c) $$ Hcr
  icases Hc with ⟨HR, HB⟩
  imodintro
  isplitl
  · unfold start ghost known xWhole
    isplitl [HK Hlev Hl]
    · isplitl [HK Hlev]
      · isplitl [HK] <;> iassumption
      iexact Hl
    isplitl [Hx]; · iexact Hx
    isplitl [Hy]; · iexists _; iexact Hy
    isplitl [HR] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ inBuf slotBuf
  iintro ⟨Hs, -, Hi, Ho⟩
  isplitl [Hs]; · iexact Hs
  isplitl [Hi] <;> iassumption

/-- What a device keeps to the end: its argument, its result, the barrier's semaphore at zero. -/
def final (c : Dev nD) : sProp 𝕄 := iprop(xWhole m c ∗ ((c.tc : Thread nD τ).loc main_v1 ↦{fullShare} res m c) ∗ unscopedSems0 c)

theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scopedRest0_eq]
  unfold Φ₁ final inBuf slotBuf
  rw [unscopedSems0_eq]
  iintro ⟨Hx, Hy, Hz, Hb, Hi, Ho⟩
  isplitl [Hx Hy Hb]
  · isplitl [Hx]; · iexact Hx
    isplitl [Hy] <;> iassumption
  isplitl [Hz]; · iapply (zeros_eq c); iexact Hz
  isplitl [Hi] <;> iassumption

theorem waits (c : Dev nD) : (levAts L lv : sProp 𝕄) ⊢ Pipeline.cellsWaits cfgs (dats m) () 0 c :=
  Pipeline.cellsWaits_intro cfgs (dats m) () 0 c fun w s t => by
    have hl : lev (.dma ((cfg0.win w).sem s)) = 0 := by fin_cases w; fin_cases s; decide
    rcases t with ⟨_ | _, ht⟩
    · exact mayWait_O₀ c _ hl
    · exact mayWait_zero c _

def endsWith (c : Dev nD) (s : MemSt nD τ sig (Elt F)) : Prop :=
  (s.mem ((c.tc : Thread nD τ).loc main_arg0) = X m c ∧ s.mem ((c.tc : Thread nD τ).loc main_v1) = res m c)
    ∧ ∀ sm : SemLoc sig, sm.isScoped .tc = false → s.sem ((c.tc : Thread nD τ), sm) = 0

theorem final_read (c : Dev nD) (s' : Phys nD τ sig (Elt F)) :
    iprop(final m c ∗ emp ∗ SI s') ⊢ (|={Set.univ}=> iprop(⌜endsWith m c s'.mem⌝ ∗ SI s') : sProp 𝕄) := by
  unfold final xWhole
  iintro ⟨⟨Hx, Hy, Hb⟩, -, HSI⟩
  icombine HSI Hx gives %hx
  icombine HSI Hy gives %hy
  imod (Pipeline.unscopedSems0_read (X := unscopedSems0 c) (c := c) fupd_intro s') $$ [Hb HSI] with ⟨%hs, HSI⟩
  · isplitl [Hb] <;> iassumption
  imodintro
  isplitr; · ipureintro; exact ⟨⟨Buf.eq_of_forall_mem_univ hx, Buf.eq_of_forall_mem_univ hy⟩, hs⟩
  iexact HSI

/-- From any memory in which every device's permutation exchanges the columns, with zero counters, every execution ends;
    then every device's result is its partner's argument in the narrower format, its arguments are unchanged and every counter is zero. -/
def Ends (r : PUnit × MemSt nD τ sig (Elt F)) : Prop :=
  (∀ c : Dev nD, r.2.mem ((c.tc : Thread nD τ).loc main_v1) = res m c ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0

set_option maxRecDepth 8000 in
theorem run_main (h : PreOK m) : θ_run (defs (F := F)) (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m h) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      icases (ownU_pair _ _) $$ Hu with ⟨HP, HX⟩
      icases (own_pair_emb _ _ _) $$ HX with ⟨HX, -⟩
      ihave HX := (Entails.of_eq (show BI.own (((Emb.inl : Emb UB (UB × Counters)).trans embR) (initOf allCells allToks)) = (BI.own (ER (initOf allCells allToks)) : sProp 𝕄) from rfl)) $$ HX
      imod (fund_cells m) $$ HX with HG
      imodintro
      isplitl [HP] <;> iassumption)
    (hglob := glob m)
    (hA := fun _ _ => rfl) (hpf := fun _ k => k.elim0)
    (X := start m) (Y := final m) (Z := fun _ => iprop(emp))
    (hX := start_intro m ρ) (hin := phi0_intro m) (hout := phi1_exit m)
    (QY := endsWith m) (hY := final_read m)
    (hQ := fun s hc hs => ⟨fun c => ⟨(hc c).2.2.1.2, (hc c).2.2.1.1, ((hc c).1 (0 : Fin 1)).trans ((dats m 0 c).arrAt_in (0 : Fin 1) rfl _)⟩,
      sem_eq_zero hs fun c => (hc c).2.2.2⟩)

end Cert.Proof.Swap

end
-- ==== Proof.Local.lean ====
/- The local copies: what the body does when the permutation leaves the two blocks in place.

   The branch is again unrolled; it is stated as a loop over the sixteen chunks, each fetched, rounded
   and copied into the device's own result before the next begins. No device talks to another. -/
module

public import proofs.«01_k».proof.Proof.Body

@[expose] public section

noncomputable section

namespace Cert.Proof.Keep

open Cert.Kernel Cert.Kernel.Gen
open Cert.Proof.Swap
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The steps -/

/-- Chunk `k`'s slot is copied into the device's own result; -/
def store (k : Nat) : PP F :=
  Prog.lift (.enqueueDma (slotS k) (.here (yC k)) (.dma (sendSem k)) (slotS_exact k) (yC_exact k) ⟨Or.inl rfl, trivial⟩)
/-- the copy is over. -/
def stored (k : Nat) : PP F := Prog.lift (.waitDma2 (sendSem k) (slotS k) (yC k) (slotS_exact k) (yC_exact k))

/-- One chunk. -/
def copy (k : Nat) : PP F := do
  fetch k
  fetched k
  round k
  store k
  stored k

set_option maxRecDepth 65536 in
/-- The branch taken when the word read is the device's own column: the chunks one after the other. -/
theorem branch_eq (arg0 : Memref sig .tc .smem S2 .i32) (harg0 : arg0.IsWhole) (d0 : Dev nD) (v2 v5 v7 v9 : BitVec 32)
    (hw : k0_chk1 d0 v7) (h2 : ¬ k0_cond2 d0 v7 = 1#1) (h9 : Scalar.cmpi .ne v9 0#32 = 1#1) :
    k0_part45 (F := F) arg0 harg0 xM (Memref.isWhole_whole _) yM (Memref.isWhole_whole _) inM (Memref.isWhole_whole _)
      slotM (Memref.isWhole_whole _) cc0_scratch2 cc0_scratch3 cc0_scratch4 d0 v2 v5 v7 hw v9 = upto copy 16 0 := by
  unfold k0_part45
  dsimp only
  rw [if_pos h9, dif_neg h2]
  chain_rfl

variable (m : (ℓ : Loc nD τ sig) → Buf (Elt F) ℓ)

/-! ## One chunk -/

/-- The result of device `c`: its own argument in the narrower format. -/
def own (c : Dev nD) : Buf (Elt F) ((c.tc : Thread nD τ).loc main_v1) :=
  (truncf .bf16 (X m c : FVec F S1x4096x2048 .f32) bitsLt_bf16_f32 : FVec F S1x4096x2048 .bf16)

theorem own_rows (c : Dev nD) (k : Nat) : (yC k).view.read (Elt F) (own m c) = rows m c k := rfl

/-- A slot with its semaphore, no copy under way. -/
def slotIdle (c : Dev nD) (k : Nat) : sProp 𝕄 := iprop(slotAny (F := F) c k ∗ semVal (sendCell c k) 0)

theorem slotIdle_add (c : Dev nD) (k : Nat) : (slotIdle c (k + 4) : sProp 𝕄) = slotIdle c k := by
  unfold slotIdle slotAny sendCell
  simp only [slotPt_add, sendSem_add]

/-- Chunk `k` is on its way into the result. -/
def leaving (c : Dev nD) (k : Nat) : sProp 𝕄 :=
  iprop(∃ (fs : Buf (Elt F) ((slotS k).view.loc (c.tc : Thread nD τ))) (fd : Buf (Elt F) ((yC k).view.loc (c.tc : Thread nD τ))),
    ⌜(slotS k).view.read (Elt F) fs = rows m c k⌝ ∗ Transfers.Flight EC (c.tc : Thread nD τ) (.dma (sendSem k)) () N
    iprop(((yC k).view.loc (c.tc : Thread nD τ) ↦[(yC k).view.set]{fullShare}
        ((yC k).view.write (Elt F) fd ((slotS k).view.read (Elt F) fs) Finset.univ))
      ∗ ((slotS k).view.loc (c.tc : Thread nD τ) ↦[(slotS k).view.set]{fullShare} fs)))

/-- The result's rows after the copy. -/
theorem landed (c : Dev nD) (k : Nat) (fd : Buf (Elt F) ((c.tc : Thread nD τ).loc main_v1)) :
    ((yC k).view.loc (c.tc : Thread nD τ) ↦[(yC k).view.set]{fullShare}
        ((yC k).view.write (Elt F) fd (rows m c k) Finset.univ) : sProp 𝕄) = yPt c k (own m c) := by
  rw [yPt_eq]
  refine pointsTo_congr fun i hi => ?_
  obtain ⟨x, -, rfl⟩ := Finset.mem_map.mp hi
  exact (congrFun (View.read_write_univ (v := (yC k).view) (Val := Elt F) fd (rows m c k)) x).trans (congrFun (own_rows m c k) x).symm

theorem step_store (c : Dev nD) (k : Nat) (f : Buf (Elt F) ((c.tc : Thread nD τ).loc main_v1)) (K : PUnit → sProp 𝕄) :
    iprop(slotRows m c k ∗ semVal (sendCell c k) 0 ∗ yPt c k f ∗ (leaving m c k -∗ K ⟨⟩)) ⊢ run c (store k) K := by
  unfold slotRows run store
  iintro ⟨⟨%fs, %hfs, Hs⟩, Hv, Hy, Hk⟩
  ihave Hs := (Entails.of_eq (slotPt_eq c k fs)) $$ Hs
  ihave Hy := (Entails.of_eq (yPt_eq c k f)) $$ Hy
  iapply (Transfers.wp_dmaLocal EC 𝒱₀ (c.tc : Thread nD τ) none (src := slotS k) (dst := yC k) (via := .same) (sm := .dma (sendSem k)) (fd := f) () N rfl N_pos
    (Finset.Subset.refl _)) $$ [Hs Hy Hv]
  · isplitl [Hs]; · iexact Hs
    isplitl [Hy] <;> iassumption
  iintro Hf
  rw [wp_ret]; imodintro
  iapply Hk
  unfold leaving
  iexists fs; iexists f
  isplitr; · ipureintro; exact hfs
  iexact Hf

theorem step_stored (c : Dev nD) (k : Nat) (K : PUnit → sProp 𝕄) :
    iprop(leaving m c k ∗ owing c 0 ∗ ((yPt c k (own m c) ∗ slotIdle c k ∗ owing c 0) -∗ K ⟨⟩)) ⊢ run c (stored k) K := by
  unfold leaving owing run stored
  iintro ⟨⟨%fs, %fd, %hfs, Hf⟩, ⟨%W, HO⟩, Hk⟩
  iapply (Transfers.wp_waitLocal EC 𝒱₀ (c.tc : Thread nD τ) none (dstw := yC k) () (credit_y k)) $$ [Hf HO]
  · isplitl [Hf] <;> iassumption
  iintro ⟨⟨Hy, Hs⟩, Hv, HO⟩
  rw [wp_ret]; imodintro
  iapply Hk
  isplitl [Hy]
  · rw [hfs]
    iapply (Entails.of_eq (landed m c k fd)); iexact Hy
  isplitl [Hs Hv]
  · unfold slotIdle slotAny
    isplitl [Hs]; · iexists fs; iapply (Entails.of_eq (slotPt_eq c k fs).symm); iexact Hs
    iexact Hv
  iexists _; iexact HO

/-! ## The loop -/

/-- Before chunk `k`: the first `k` chunks of the result are in place, every slot is idle. -/
def inv (c : Dev nD) (f : Buf (Elt F) ((c.tc : Thread nD τ).loc main_v1)) (k : Nat) : sProp 𝕄 :=
  iprop(xWhole m c ∗ (inFree c k ∗ inFree c (k + 1)) ∗ (slotIdle c k ∗ slotIdle c (k + 1) ∗ slotIdle c (k + 2) ∗ slotIdle c (k + 3))
    ∗ (bigSep (Finset.Ico k 16) fun j => yPt c j f) ∗ (bigSep (Finset.Ico 0 k) fun j => yPt c j (own m c)) ∗ owing c 0)

theorem step_copy (c : Dev nD) (f : Buf (Elt F) ((c.tc : Thread nD τ).loc main_v1)) (k : Nat) (hk : k < 16) (K : PUnit → sProp 𝕄) :
    iprop(inv m c f k ∗ (inv m c f (k + 1) -∗ K ⟨⟩)) ⊢ run c (copy k) K := by
  unfold copy
  simp only [run_bind]
  unfold inv
  rw [bigSep_Ico_succ_bot hk, bigSep_Ico_succ_top (Nat.zero_le k)]
  iintro ⟨⟨Hx, ⟨Hi, Hi1⟩, ⟨Hs, Hs1, Hs2, Hs3⟩, ⟨Hy, Hys⟩, Hds, HO⟩, Hk⟩
  icases (x_split m c k).1 $$ Hx with ⟨Hxk, Hx⟩
  iapply (step_fetch m c k _)
  isplitl [Hxk]; · iexact Hxk
  isplitl [Hi]; · iexact Hi
  iintro Hf
  iapply (step_fetched_of m c k 0 _)
  isplitr; · rw [MayWait_zero]; iempintro
  isplitl [Hf]; · iexact Hf
  isplitl [HO]; · iexact HO
  iintro ⟨Hxk, Hin, HO⟩
  icases (Entails.of_eq (show (slotIdle c k : sProp 𝕄) = iprop(slotAny c k ∗ semVal (sendCell c k) 0) from rfl)) $$ Hs with ⟨Hs, Hv⟩
  iapply (step_round_of m c k _)
  isplitl [Hin]; · iexact Hin
  isplitl [Hs]; · iexact Hs
  iintro ⟨Hi, Hs⟩
  iapply (step_store m c k f _)
  isplitl [Hs]; · iexact Hs
  isplitl [Hv]; · iexact Hv
  isplitl [Hy]; · iexact Hy
  iintro Hl
  iapply (step_stored m c k K)
  isplitl [Hl]; · iexact Hl
  isplitl [HO]; · iexact HO
  iintro ⟨Hy, Hs, HO⟩
  iapply Hk
  isplitl [Hxk Hx]
  · iapply (x_split m c k).2; isplitl [Hxk] <;> iassumption
  isplitl [Hi Hi1]
  · isplitl [Hi1]; · iexact Hi1
    iapply (Entails.of_eq (inFree_add c k).symm); iexact Hi
  isplitl [Hs Hs1 Hs2 Hs3]
  · isplitl [Hs1]; · iexact Hs1
    isplitl [Hs2]; · iexact Hs2
    isplitl [Hs3]; · iexact Hs3
    iapply (Entails.of_eq (slotIdle_add c k).symm); iexact Hs
  isplitl [Hys]; · iexact Hys
  isplitl [Hds Hy]; · isplitl [Hy] <;> iassumption
  iexact HO

/-! ## The branch -/

/-- The two halves of the staging buffer and the four slots, idle. -/
def idle (c : Dev nD) : sProp 𝕄 := iprop((inFree (F := F) c 0 ∗ inFree c 1) ∗ bigSep (Finset.Ico 0 4) fun j => slotIdle (F := F) c j)

theorem slots_eq (c : Dev nD) : (bigSep (Finset.Ico 0 4) fun j => slotIdle c j : sProp 𝕄)
    = iprop(slotIdle c 0 ∗ slotIdle c (0 + 1) ∗ slotIdle c (0 + 2) ∗ slotIdle c (0 + 3)) := by
  rw [bigSep_Ico_succ_bot (by decide), bigSep_Ico_succ_bot (by decide), bigSep_Ico_succ_bot (by decide), bigSep_Ico_one]

/-- After sixteen chunks the slots are in the places they began in. -/
theorem inFree_mod (c : Dev nD) (k : Nat) : (inFree c (k + 16) : sProp 𝕄) = inFree c k := by
  unfold inFree inPt inCell
  rw [inSet_congr (show (k + 16) % 2 = k % 2 by omega), show inSem (k + 16) = inSem k from Fin.ext (by rw [inSem_val, inSem_val]; omega)]
theorem slotIdle_mod (c : Dev nD) (k : Nat) : (slotIdle c (k + 16) : sProp 𝕄) = slotIdle c k := by
  rw [show k + 16 = k + 4 + 4 + 4 + 4 by omega, slotIdle_add, slotIdle_add, slotIdle_add, slotIdle_add]

theorem inv_first (c : Dev nD) (f : Buf (Elt F) ((c.tc : Thread nD τ).loc main_v1)) :
    iprop(xWhole m c ∗ ((c.tc : Thread nD τ).loc main_v1 ↦{fullShare} f) ∗ idle c ∗ owing c 0) ⊢ inv m c f 0 := by
  unfold inv idle
  rw [y_chunks, slots_eq, show Finset.Ico 0 0 = ∅ from rfl, bigSep_empty]
  iintro ⟨Hx, Hy, ⟨Hi, Hs⟩, HO⟩
  isplitl [Hx]; · iexact Hx
  isplitl [Hi]; · iexact Hi
  isplitl [Hs]; · iexact Hs
  isplitl [Hy]; · iexact Hy
  isplitr; · iempintro
  iexact HO

theorem inv_last (c : Dev nD) (f : Buf (Elt F) ((c.tc : Thread nD τ).loc main_v1)) :
    inv m c f (0 + 16) ⊢ iprop(xWhole m c ∗ ((c.tc : Thread nD τ).loc main_v1 ↦{fullShare} own m c) ∗ idle c ∗ owing c 0) := by
  unfold inv idle
  rw [y_chunks, slots_eq, inFree_mod, show 0 + 16 + 1 = 1 + 16 from rfl, inFree_mod, slotIdle_mod, show 1 + 16 = 1 + 0 + 16 from rfl,
    show 0 + 16 + 2 = 0 + 2 + 16 from rfl, show 0 + 16 + 3 = 0 + 3 + 16 from rfl, show 1 + 0 + 16 = 0 + 1 + 16 from rfl, slotIdle_mod, slotIdle_mod, slotIdle_mod]
  iintro ⟨Hx, Hi, Hs, -, Hy, HO⟩
  isplitl [Hx]; · iexact Hx
  isplitl [Hy]; · iexact Hy
  isplitl [Hi Hs]
  · isplitl [Hi] <;> iassumption
  iexact HO

theorem local_sound (c : Dev nD) (K : PUnit → sProp 𝕄) :
    iprop(xWhole m c ∗ (∃ f, (c.tc : Thread nD τ).loc main_v1 ↦{fullShare} f) ∗ idle c ∗ owing c 0
      ∗ ((xWhole m c ∗ ((c.tc : Thread nD τ).loc main_v1 ↦{fullShare} own m c) ∗ idle c ∗ owing c 0) -∗ K ⟨⟩)) ⊢ run c (upto copy 16 0) K := by
  iintro ⟨Hx, ⟨%f, Hy⟩, Hi, HO, Hk⟩
  iapply (run_loop c copy (inv m c f) 16 0 (fun j _ hj K => step_copy m c f j (by omega) K) K)
  isplitl [Hx Hy Hi HO]
  · iapply (inv_first m c f)
    isplitl [Hx]; · iexact Hx
    isplitl [Hy]; · iexact Hy
    isplitl [Hi] <;> iassumption
  iintro H
  iapply Hk
  iapply (inv_last m c f); iexact H

end Cert.Proof.Keep

end
-- ==== Proof.LocalRun.lean ====
/- The body and the run where the permutation leaves the two blocks in place. -/
module

public import proofs.«01_k».proof.Proof.Local
public import proofs.«01_k».proof.Proof.Launch

@[expose] public section

noncomputable section

namespace Cert.Proof.Keep

open Cert.Kernel Cert.Kernel.Gen
open Cert.Proof.Swap (X xM yM inM slotM piM piOf pAt piStg word wordR word_eq stg owns_stg inBuf slotBuf in_split in_join slot_split slot_join
  inFree slotAny run owing xWhole inCell sendCell recvCell osem ownSemFacts ownSems0_eq UU EP EC 𝒱₀ L lv L_of_ne mayWait_zero upto)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The permutation and the word read -/

/-- The permutation leaves the two columns in place, on every device. -/
def PreOK : Prop := ∀ (c : Dev nD) (k : Fin 2), piOf m c (pAt k) = BitVec.ofNat 32 k.val

theorem word_keep (h : PreOK m) (c : Dev nD) : word (F := F) c (piStg m c) = BitVec.ofNat 32 (c.val % 2) := by
  rw [word_eq, h]; rfl

theorem chk_keep (c : Dev nD) : k0_chk1 c (BitVec.ofNat 32 (c.val % 2)) := by revert c; decide +kernel
theorem cond_keep (c : Dev nD) : ¬ k0_cond2 c (BitVec.ofNat 32 (c.val % 2)) = 1#1 := by revert c; decide +kernel
theorem own_keep (c : Dev nD) : Scalar.cmpi .ne (Scalar.extui (Scalar.cmpi .eq (BitVec.ofNat 32 (c.val % 2))
    (Scalar.remsi (Scalar.divsi (Dev.word c) 1#32) 2#32)) : BitVec 32) 0#32 = 1#1 := by revert c; decide +kernel

theorem word_chk (h : PreOK m) (c : Dev nD) : k0_chk1 c (word (F := F) c (piStg m c)) := by rw [word_keep m h]; exact chk_keep c
theorem word_cond (h : PreOK m) (c : Dev nD) : ¬ k0_cond2 c (word (F := F) c (piStg m c)) = 1#1 := by rw [word_keep m h]; exact cond_keep c
theorem word_own (h : PreOK m) (c : Dev nD) : Scalar.cmpi .ne (Scalar.extui (Scalar.cmpi .eq (word (F := F) c (piStg m c))
    (Scalar.remsi (Scalar.divsi (Dev.word c) 1#32) 2#32)) : BitVec 32) 0#32 = 1#1 := by rw [word_keep m h]; exact own_keep c

/-! ## What the body starts with and ends with -/

/-- The kernel's own semaphores and the barrier's, all at zero. -/
def sems (c : Dev nD) : sProp 𝕄 :=
  iprop(Pipeline.ownSems0 (Ix := Unit) (Name := ℕ) (U := UU) (Lvl := ℕ) (Val := Elt F) (τ := τ) osem c ∗ unscopedSems0 c)
/-- A device's argument and its result's buffer, at some contents and at the result. -/
def start (c : Dev nD) : sProp 𝕄 := iprop((xWhole m c ∗ ∃ f, (c.tc : Thread nD τ).loc main_v1 ↦{fullShare} f) ∗ sems c)
def final (c : Dev nD) : sProp 𝕄 := iprop((xWhole m c ∗ (c.tc : Thread nD τ).loc main_v1 ↦{fullShare} own m c) ∗ unscopedSems0 c)

def Φ₀ (c : Dev nD) : sProp 𝕄 := iprop(start m c ∗ inBuf c ∗ slotBuf c)
def Φ₁ (c : Dev nD) : sProp 𝕄 := iprop(final m c ∗ Pipeline.ownSems0 osem c ∗ inBuf c ∗ slotBuf c)

/-- The semaphores no copy of this branch completes on. -/
def untouched (c : Dev nD) : sProp 𝕄 := bigSep (Finset.Ico 0 16) fun j => semVal (recvCell c j) 0

theorem slotIdle_sep (c : Dev nD) : (bigSep (Finset.Ico 0 4) fun j => slotIdle (F := F) c j)
    = iprop((bigSep (Finset.Ico 0 4) fun j => slotAny (F := F) c j) ∗ bigSep (Finset.Ico 0 4) fun j => semVal (sendCell c j) 0) := by
  unfold slotIdle; rw [bigSep_sep']

theorem idle_intro (c : Dev nD) : iprop(Pipeline.ownSems0 (Ix := Unit) (Name := ℕ) (U := UU) (Lvl := ℕ) (Val := Elt F) (τ := τ) osem c ∗ inBuf c ∗ slotBuf c)
    ⊢ iprop(idle c ∗ untouched c) := by
  rw [ownSems0_eq, bigSep_Ico_succ_bot (show 0 < 2 by decide), bigSep_Ico_one]
  unfold idle untouched inFree
  rw [slotIdle_sep]
  iintro ⟨⟨⟨Hv0, Hv1⟩, Hvs, Hr⟩, Hi, Hs⟩
  icases (in_split c) $$ Hi with ⟨Hi0, Hi1⟩
  isplitr [Hr]
  · isplitl [Hv0 Hv1 Hi0 Hi1]
    · isplitl [Hv0 Hi0]
      · isplitl [Hi0] <;> iassumption
      isplitl [Hi1] <;> iassumption
    isplitl [Hs]; · iapply (slot_split c); iexact Hs
    iexact Hvs
  iexact Hr

theorem slots_join (c : Dev nD) : (bigSep (Finset.Ico 0 4) fun j => slotAny c j : sProp 𝕄) ⊢ slotBuf c := by
  refine (Entails.of_eq ?_).trans (slot_join c)
  rw [Swap.bigSep_shift (fun j => iprop(∃ f, Swap.slotPt c j f)) 16 4]
  refine BI.bigSep_congr fun j _ => ?_
  unfold slotAny Swap.slotPt
  rw [Swap.slotSet_congr (show (16 + j) % 4 = j % 4 by omega)]

theorem idle_elim (c : Dev nD) : iprop(idle c ∗ untouched c)
    ⊢ iprop(Pipeline.ownSems0 (Ix := Unit) (Name := ℕ) (U := UU) (Lvl := ℕ) (Val := Elt F) (τ := τ) osem c ∗ inBuf c ∗ slotBuf c) := by
  rw [ownSems0_eq, bigSep_Ico_succ_bot (show 0 < 2 by decide), bigSep_Ico_one]
  unfold idle untouched inFree
  rw [slotIdle_sep]
  iintro ⟨⟨⟨⟨Hi0, Hv0⟩, ⟨Hi1, Hv1⟩⟩, ⟨Hs, Hvs⟩⟩, Hr⟩
  isplitl [Hv0 Hv1 Hvs Hr]
  · isplitl [Hv0 Hv1]
    · isplitl [Hv0] <;> iassumption
    isplitl [Hvs] <;> iassumption
  isplitl [Hi0 Hi1]
  · iapply (in_join c); isplitl [Hi0] <;> iassumption
  iapply (slots_join c); iexact Hs

theorem body_local (c : Dev nD) (K : PUnit → sProp 𝕄) :
    iprop(Φ₀ m c ∗ owing c 0 ∗ ((Φ₁ m c ∗ owing c 0) -∗ K ⟨⟩)) ⊢ run c (upto copy 16 0) K := by
  unfold Φ₀ Φ₁ start final sems
  iintro ⟨⟨⟨⟨Hx, Hy⟩, Hos, Hb⟩, Hi, Hs⟩, HO, Hk⟩
  icases (idle_intro (F := F) c) $$ [Hos Hi Hs] with ⟨Hid, Hun⟩
  · isplitl [Hos]; · iexact Hos
    isplitl [Hi] <;> iassumption
  iapply (local_sound m c K)
  isplitl [Hx]; · iexact Hx
  isplitl [Hy]; · iexact Hy
  isplitl [Hid]; · iexact Hid
  isplitl [HO]; · iexact HO
  iintro ⟨Hx, Hy, Hid, HO⟩
  iapply Hk
  isplitr [HO]
  · isplitl [Hx Hy Hb]
    · isplitl [Hx Hy]
      · isplitl [Hx] <;> iassumption
      iexact Hb
    iapply (idle_elim (F := F) c)
    isplitl [Hid] <;> iassumption
  iexact HO

/-! ## The body -/

def dats (_ : Fin 1) (c : Dev nD) : Dat τ (Elt F) Unit ℕ UU ℕ cfg0 c where
  A w := m ((cfg0.win w).arr.view.loc (c.tc : Thread nD τ))
  after w _ := match w with
    | ⟨0, _⟩ => piStg m c
  Φ t := match t with
    | ⟨0, _⟩ => Φ₀ m c
    | ⟨_ + 1, _⟩ => Φ₁ m c
  q _ := fullShare
  owed _ := 0

def bodyPre (c : Dev nD) : sProp 𝕄 :=
  iprop(Φ₀ m c ∗ (dats m 0 c).owesAt () t0_0.castSucc ∗ (∃ d, stg c ((dats m 0 c).before (0 : Fin 1) t0_0 d)))
def bodyPost (c : Dev nD) : sProp 𝕄 :=
  iprop(Φ₁ m c ∗ (dats m 0 c).owesAt () t0_0.succ ∗ stg c (piStg m c))

theorem body_sound (h : PreOK m) (c : Dev nD) :
    bodyPre m c ⊢ run c (cc0_body (F := F) piM (Memref.isWhole_whole _) xM (Memref.isWhole_whole _) yM (Memref.isWhole_whole _)
      inM (Memref.isWhole_whole _) slotM (Memref.isWhole_whole _) cc0_scratch2 cc0_scratch3 cc0_scratch4) (fun _ => bodyPost m c) := by
  unfold run
  rw [cc0_body_eq_skeleton]; unfold cc0_body_skel
  rw [k0_part44_eq_skeleton]; unfold k0_part44_skel
  simp only [smemLoad, smemLoadElt, Prog.lift, Prog.bind_op, Prog.bind_ret, Prog.pure_eq_ret, Prog.bind_assoc, wp_deviceId]
  unfold bodyPre
  iintro ⟨HΦ, Ho, ⟨%d, %g, %hg, Ht⟩⟩
  have ht : g = piStg m c := by rw [hg]; unfold Dat.before; rw [if_pos (by rfl)]; rfl
  subst ht
  unfold Dat.owesAt Pipeline.owesWithin
  icases Ho with ⟨%W, %hW, HO⟩
  rw [show (dats m 0 c).owed t0_0.castSucc = 0 from rfl]
  iapply (wp_load_rect 𝒱₀ (c.tc : Thread nD τ) none Set.univ (m := piM) (r := wordR c) (Finset.subset_univ _)) $$ Ht; iintro Ht
  simp only [wp_assume_of _ _ _ _ (d := k0_chk1.dec _ _) (word_chk m h c)]
  rw [branch_eq piM (Memref.isWhole_whole _) c _ _ _ _ (word_chk m h c) (word_cond m h c) (word_own m h c)]
  rw [wp_bind]
  iapply (body_local m c _)
  isplitl [HΦ]; · iexact HΦ
  isplitl [HO]; · unfold owing; iexists W; iexact HO
  iintro ⟨HΦ, HO⟩
  rw [wp_ret]; imodintro
  unfold bodyPost Dat.owesAt Pipeline.owesWithin
  rw [show (dats m 0 c).owed t0_0.succ = 0 from rfl]
  isplitl [HΦ]; · iexact HΦ
  isplitl [HO]
  · unfold owing
    icases HO with ⟨%W', HO⟩
    iexists W'
    isplitr; · ipureintro; exact fun _ _ => Or.inl trivial
    iexact HO
  iexists _; isplitr; · (ipureintro; rfl)
  iexact Ht

set_option maxRecDepth 4000 in
theorem body_obligation (h : PreOK m) (c : Dev nD) : BodyObligation (dats m 0 c) (defs₀ (F := F)) 𝒱₀ () Set.univ := fun t => by
  rw [fin_N0 t]
  rw [bigSep_W0, bigSep_W0]
  simp only [owns_stg]
  exact body_sound m h c

/-! ## The run -/

/-- No rounds are needed: the pipeline's alone, and the counters of the copies. -/
def u₀ : UU := (Rounds.initOf (Pipeline.cells cfgs cellOf_inj) (Pipeline.launchToks cfgs cellOf_inj), (1 : Swap.UB × Counters))

theorem sems_intro (c : Dev nD) : (iprop(Pipeline.ownSems0 (Ix := Unit) (Name := ℕ) (U := UU) (Lvl := ℕ) (Val := Elt F) (τ := τ) osem c ∗ unscopedSems0 c ∗ emp) : sProp 𝕄) ⊢ sems c := by
  unfold sems
  iintro ⟨Ho, Hu, -⟩
  isplitl [Ho] <;> iassumption

theorem glob : (bigSep Finset.univ fun c => iprop(Pipeline.ownSems0 (Ix := Unit) (Name := ℕ) (U := UU) (Lvl := ℕ) (Val := Elt F) (τ := τ) osem c ∗ unscopedSems0 c ∗ emp) : sProp 𝕄)
    ⊢ |={Set.univ}=> bigSep Finset.univ sems :=
  (show (bigSep Finset.univ fun c => iprop(Pipeline.ownSems0 (Ix := Unit) (Name := ℕ) (U := UU) (Lvl := ℕ) (Val := Elt F) (τ := τ) osem c ∗ unscopedSems0 c ∗ emp) : sProp 𝕄) ⊢ bigSep Finset.univ sems from bigSep_mono fun c _ => sems_intro c).trans fupd_intro

theorem nothing : (iprop(emp) : sProp 𝕄) ⊢ bigSep Finset.univ fun _ : Dev nD => (iprop(emp) : sProp 𝕄) := Entails.of_eq (bigSep_emp_const _).symm

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun _ => 0) c ∗ prngReg c (ρ c) ∗ sems c)
      ⊢ |={Set.univ}=> iprop(start m c ∗ emp) := by
  rw [Pipeline.unscopedRestP_none, unscopedRest0_eq]
  iintro ⟨⟨Hx, Hy⟩, -, -, -, Hs⟩
  imodintro
  isplitl
  · unfold start xWhole
    isplitl [Hx Hy]
    · isplitl [Hx]; · iexact Hx
      iexists _; iexact Hy
    iexact Hs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ inBuf slotBuf
  iintro ⟨Hs, -, Hi, Ho⟩
  isplitl [Hs]; · iexact Hs
  isplitl [Hi] <;> iassumption

theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scopedRest0_eq]
  exact BI.Entails.refl _

def endsWith (c : Dev nD) (s : MemSt nD τ sig (Elt F)) : Prop :=
  (s.mem ((c.tc : Thread nD τ).loc main_arg0) = X m c ∧ s.mem ((c.tc : Thread nD τ).loc main_v1) = own m c)
    ∧ ∀ sm : SemLoc sig, sm.isScoped .tc = false → s.sem ((c.tc : Thread nD τ), sm) = 0

theorem final_read (c : Dev nD) (s' : Phys nD τ sig (Elt F)) :
    iprop(final m c ∗ emp ∗ SI s') ⊢ (|={Set.univ}=> iprop(⌜endsWith m c s'.mem⌝ ∗ SI s') : sProp 𝕄) := by
  unfold final xWhole
  iintro ⟨⟨⟨Hx, Hy⟩, Hb⟩, -, HSI⟩
  icombine HSI Hx gives %hx
  icombine HSI Hy gives %hy
  imod (Pipeline.unscopedSems0_read (X := unscopedSems0 c) (c := c) fupd_intro s') $$ [Hb HSI] with ⟨%hs, HSI⟩
  · isplitl [Hb] <;> iassumption
  imodintro
  isplitr; · ipureintro; exact ⟨⟨Buf.eq_of_forall_mem_univ hx, Buf.eq_of_forall_mem_univ hy⟩, hs⟩
  iexact HSI

/-- How a run ends: every device's result is its own argument in the narrower format, its arguments are unchanged and every counter is zero. -/
def Ends (r : PUnit × MemSt nD τ sig (Elt F)) : Prop :=
  (∀ c : Dev nD, r.2.mem ((c.tc : Thread nD τ).loc main_v1) = own m c ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0

set_option maxRecDepth 8000 in
/-- From any memory in which every device's permutation leaves the columns in place, with zero counters, every execution ends so. -/
theorem run_main (h : PreOK m) : θ_run (defs (F := F)) (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m h) (hne := fun w => by fin_cases w; exact Nat.succ_pos _) (harr := arr_whole0) (hstage := stage_whole0) (hshare := share_eq m)
    (hdistinct := winFacts0.arr_inj)
    (O₀ := fun _ => 0) (howed₀ := fun _ => rfl) (howedN := fun _ => rfl)
    (L := L) (lv := lv) (hL := L_of_ne) (hwaits := fun c => Pipeline.cellsWaits_intro cfgs (dats m) () 0 c fun _ _ _ => mayWait_zero c _)
    (G := fun _ => iprop(emp)) (G' := sems) (u₀ := u₀)
    (hu₀ := by
      unfold u₀
      iintro Hu
      icases (ownU_pair _ _) $$ Hu with ⟨HP, -⟩
      imodintro
      isplitl [HP]; · iexact HP
      iapply nothing; iempintro)
    (hglob := glob)
    (hA := fun _ _ => rfl) (hpf := fun _ k => k.elim0)
    (X := start m) (Y := final m) (Z := fun _ => iprop(emp))
    (hX := start_intro m ρ) (hin := phi0_intro m) (hout := phi1_exit m)
    (QY := endsWith m) (hY := final_read m)
    (hQ := fun s hc hs => ⟨fun c => ⟨(hc c).2.2.1.2, (hc c).2.2.1.1, ((hc c).1 (0 : Fin 1)).trans ((dats m 0 c).arrAt_in (0 : Fin 1) rfl _)⟩,
      sem_eq_zero hs fun c => (hc c).2.2.2⟩)

end Cert.Proof.Keep

end
-- ==== Proof.Ref.lean ====
/-
  The run of the reference: what each of its arrays holds at the end, read off its host operations.
-/
module

public import Idealize.ShloMosaic.Lib.Claim
public import proofs.«01_k».proof.Proof.Gen.ReferenceIdeal

@[expose] public section

noncomputable section

namespace Cert.Proof.Ref

open Cert.ReferenceIdeal Cert.ReferenceIdeal.Gen
open Idealize.ShloMosaic Idealize.SL.Sem

variable {F : FTy → Type} [FloatOps F]

/-- The places of the table's entries in increasing order of the entries: the reference's argsort. -/
def order (p : IVec S2 32) : IVec S2 32 :=
  (Host.sort2 S2 0 comparator_i32_i32_d0 p (iotaInDim S2 32 0)).2

/-- The row of the array each result row is read at: a negative place counts from the end. -/
def rows (p : IVec S2 32) : IVec S2x1 32 :=
  broadcastInDim S2x1 ![0] Facts₀.bcast_S2_S2x1_0
    (select (cmpi .slt (order p) (broadcastInDim S2 ![] Facts₀.bcast_S_S2 (constantI S_ 32 0#32)))
      (addi (order p) (broadcastInDim S2 ![] Facts₀.bcast_S_S2 (constantI S_ 32 2#32))) (order p))

/-- What the reference computes of an array and a table. -/
def out (x : FVec F S2x4096x2048 .f32) (p : IVec S2 32) : FVec F S2x4096x2048 .bf16 :=
  truncf .bf16 (Host.gather gather_S2x4096x2048_S2x1_S2x4096x2048_12_0_n_n_0_1_140962048 x (rows p))
    Facts₀.bitsLt_bf16_f32

/-- The operations of @main in order, the call of @argsort opened. -/
def ops : List (HloOp τ sig (Elt F)) :=
  [ StableHlo.TRef.nullary main_call0.v0 (iotaInDim S2 32 0),
    StableHlo.TRef.binary (.of main_arg1) main_call0.v0 main_call0.v1_0 (fun x y => (Host.sort2 S2 0 comparator_i32_i32_d0 x y).1),
    StableHlo.TRef.binary (.of main_arg1) main_call0.v0 main_call0.v1_1 (fun x y => (Host.sort2 S2 0 comparator_i32_i32_d0 x y).2),
    StableHlo.nullary main_c (constantI S_ 32 0#32),
    StableHlo.unary main_c main_v1 (broadcastInDim S2 ![] Facts₀.bcast_S_S2),
    StableHlo.binary main_v0 main_v1 main_v2 (cmpi .slt),
    StableHlo.nullary main_c_0 (constantI S_ 32 2#32),
    StableHlo.unary main_c_0 main_v3 (broadcastInDim S2 ![] Facts₀.bcast_S_S2),
    StableHlo.binary main_v0 main_v3 main_v4 addi,
    StableHlo.ternary main_v2 main_v4 main_v0 main_v5 select,
    StableHlo.unary main_v5 main_v6 (broadcastInDim S2x1 ![0] Facts₀.bcast_S2_S2x1_0),
    StableHlo.binary main_arg0 main_v6 main_v7
      (fun x i => Host.gather gather_S2x4096x2048_S2x1_S2x4096x2048_12_0_n_n_0_1_140962048 x i),
    StableHlo.unary main_v7 main_v8 (truncf .bf16 · Facts₀.bitsLt_bf16_f32) ]

theorem main_seq (c : Dev nD) : StableHlo.IsSeq (main (F := F) c) ops := rfl

/-- The reference runs; its result is `out` of its arguments, which end unchanged. -/
theorem run_main (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem (c.tc.loc main_v8) = out (m (c.tc.loc main_arg0)) (m (c.tc.loc main_arg1))
      ∧ r.2.mem (c.tc.loc main_arg0) = m (c.tc.loc main_arg0)
      ∧ r.2.mem (c.tc.loc main_arg1) = m (c.tc.loc main_arg1)) := by
  run_from (StableHlo.run_hlo _ _ main_seq (by decide) (by decide) (by simp [ops])
      (by intro op h; simp only [ops, List.mem_cons, List.not_mem_nil, or_false] at h; rcases h with h | h | h | h | h | h | h | h | h | h | h | h | h <;> subst h <;> rfl) _ _)
  · simp only [ops]; after_results; rfl
  · simp only [ops]; after_results
  · simp only [ops]; after_results

end Cert.Proof.Ref

end
-- ==== Proof.Value.lean ====
/-
  The result of the reference, cut over the devices, is what the kernel leaves on each of them.
-/
module

public import Idealize.ShloMosaic.Lib.Layout
public import proofs.«01_k».proof.Proof.Ref
public import proofs.«01_k».proof.Proof.Gen.Pre_swaps_Kernel
public import proofs.«01_k».proof.Proof.KeepFacts
public import proofs.«01_k».proof.Proof.Launch

@[expose] public section

noncomputable section

namespace Cert.Proof.Ref

open Cert.ReferenceIdeal Cert.ReferenceIdeal.Gen
open Idealize.ShloMosaic Idealize.SL.Sem

variable {F : FTy → Type} [FloatOps F]

/-- The dimension numbers of the row lookup, under a short name. -/
abbrev gd : GatherDims S2x4096x2048 S2x1 S2x4096x2048 :=
  gather_S2x4096x2048_S2x1_S2x4096x2048_12_0_n_n_0_1_140962048

/-- The index of the row table that result row `a` reads. -/
def rowAt (a : Fin 2) : S2x1.Idx := fun b => ⟨if b.val = 0 then a.val else 0, by
  fin_cases b
  · exact a.isLt
  · exact Nat.one_pos⟩

/-- The table that exchanges the two rows, and the table that keeps them. -/
def crossed : IVec S2 32 := fun i => BitVec.ofNat 32 (1 - (i 0).val)
def kept : IVec S2 32 := fun i => BitVec.ofNat 32 (i 0).val

theorem row_crossed (a : Fin 2) : min (rows crossed (rowAt a)).toInt.toNat 1 = 1 - a.val := by revert a; decide
theorem row_kept (a : Fin 2) : min (rows kept (rowAt a)).toInt.toNat 1 = a.val := by revert a; decide

/-- On the row axis the lookup reads the row table `t`, the entry kept in range; -/
theorem gather_row (t : IVec S2x1 32) (j : S2x4096x2048.Idx) : (gd.operandIdx j t 0).val = min (t (rowAt (j 0))).toInt.toNat 1 := by
  show gd.start j t 0 + gd.batchCoord j 0 + gd.offCoord j 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 3) ∈ gd.startIndexMap from List.mem_singleton.mpr rfl)]
  have hsi : gd.siIdx j ⟨List.idxOf (0 : Fin 3) gd.startIndexMap,
      List.idxOf_lt_length_iff.2 (List.mem_singleton.mpr rfl)⟩ = rowAt (j 0) := by
    funext b; refine Fin.ext ?_
    fin_cases b <;> rfl
  rw [hsi]; rfl

/-- on the other two it keeps the place. -/
theorem gather_rest (t : IVec S2x1 32) (j : S2x4096x2048.Idx) (a : Fin 3) (ha : a ≠ 0) : (gd.operandIdx j t a).val = (j a).val := by
  show gd.start j t a + gd.batchCoord j a + gd.offCoord j a = _
  rw [GatherDims.batchCoord_eq_zero _ _ _ List.not_mem_nil]
  unfold GatherDims.start
  rw [dif_neg (show a ∉ gd.startIndexMap from fun h => ha (List.mem_singleton.mp h))]
  fin_cases a
  · exact absurd rfl ha
  · exact (Nat.zero_add _).trans rfl
  · exact (Nat.zero_add _).trans rfl

/-- What the reference computes with a table, at an index: the argument at the index whose row is the one the lookup reads. -/
theorem out_at (x : FVec F S2x4096x2048 .f32) (p : IVec S2 32) (j j' : S2x4096x2048.Idx)
    (h0 : (j' 0).val = min (rows p (rowAt (j 0))).toInt.toNat 1) (h : ∀ a : Fin 3, a ≠ 0 → (j' a).val = (j a).val) :
    out x p j = (truncf .bf16 x Facts₀.bitsLt_bf16_f32 : FVec F S2x4096x2048 .bf16) j' :=
  congrArg (truncf .bf16 x Facts₀.bitsLt_bf16_f32 : FVec F S2x4096x2048 .bf16) (funext fun a => Fin.ext (by
    by_cases ha : a = 0
    · subst ha; rw [h0]; exact gather_row (rows p) j
    · rw [h a ha]; exact gather_rest (rows p) j a ha))

/-! ## The preconditions -/

/-- A predicate's last step: two comparisons and their conjunction. -/
theorem both_eq {u v a b : BitVec 32} (e : IntOp.andi (IntOp.cmpi .eq u a) (IntOp.cmpi .eq v b) = 1#1) : u = a ∧ v = b := by
  have both : ∀ a b : Bool, IntOp.andi (BitVec.ofBool a) (BitVec.ofBool b) = 1#1 → a = true ∧ b = true := by decide
  exact (both _ _ e).imp eq_of_beq eq_of_beq

open Cert.Proof.Swap (pAt)

/-- A table is known by its two entries. -/
theorem table_ext {p q : IVec S2 32} (h0 : p (pAt 0) = q (pAt 0)) (h1 : p (pAt 1) = q (pAt 1)) : p = q := by
  funext i
  have hi : i = pAt (i 0) := funext fun a => by fin_cases a; rfl
  rw [hi]
  generalize i 0 = k at *
  fin_cases k
  · exact h0
  · exact h1

/-- A table of the one precondition is the crossed one; -/
theorem crossed_of_pre [Cert.Pre_swaps_Kernel.Facts] (x : FVec F Cert.Pre_swaps_Kernel.S1x4096x2048 .f32) (p : IVec S2 32)
    (h : Cert.Pre_swaps_Kernel.fn x p = fun _ => 1#1) : p = crossed := by
  have e : IntOp.andi (IntOp.cmpi .eq (p (pAt 0)) 1#32) (IntOp.cmpi .eq (p (pAt 1)) 0#32) = 1#1 := by
    refine Eq.trans ?_ (congrFun h (fun a => a.elim0))
    refine congrArg₂ (fun u v => IntOp.andi (IntOp.cmpi .eq u 1#32) (IntOp.cmpi .eq v 0#32)) ?_ ?_ <;>
      exact congrArg p (funext fun a => by
        fin_cases a
        exact Fin.ext (congrArg (_ + ·) (Nat.lt_one_iff.mp (Fin.isLt _)).symm))
  exact table_ext (both_eq e).1 (both_eq e).2

/-- of the other, the kept one. -/
theorem kept_of_pre [Cert.Pre_keeps_Kernel.Facts] (x : FVec F Cert.Pre_keeps_Kernel.S1x4096x2048 .f32) (p : IVec S2 32)
    (h : Cert.Pre_keeps_Kernel.fn x p = fun _ => 1#1) : p = kept := by
  have e : IntOp.andi (IntOp.cmpi .eq (p (pAt 0)) 0#32) (IntOp.cmpi .eq (p (pAt 1)) 1#32) = 1#1 := by
    refine Eq.trans ?_ (congrFun h (fun a => a.elim0))
    refine congrArg₂ (fun u v => IntOp.andi (IntOp.cmpi .eq u 0#32) (IntOp.cmpi .eq v 1#32)) ?_ ?_ <;>
      exact congrArg p (funext fun a => by
        fin_cases a
        exact Fin.ext (congrArg (_ + ·) (Nat.lt_one_iff.mp (Fin.isLt _)).symm))
  exact table_ext (both_eq e).1 (both_eq e).2

/-! ## The two results -/

open Cert.Proof.Swap (peer)

/-- The block of the partner is the other one. -/
theorem block_peer (c : Dev Cert.Kernel.nD) : Layout.meshLin [2, 2] (peer c).val [1] = 1 - Layout.meshLin [2, 2] c.val [1] := by
  revert c; decide

/-- Device `d`'s block of the argument, narrowed, is device `c`'s block of the reference's result, if the lookup reads `d`'s row for `c`'s. -/
theorem block_out (x : FVec F S2x4096x2048 .f32) (p : IVec S2 32) (c d : Dev Cert.Kernel.nD)
    (h : ∀ a : Fin 2, a.val = Layout.meshLin [2, 2] c.val [1] → Layout.meshLin [2, 2] d.val [1] = min (rows p (rowAt a)).toInt.toNat 1) :
    (truncf .bf16 (Layout.blockN ⟨3, ![1, 4096, 2048]⟩ ⟨3, ![2, 4096, 2048]⟩ (Layout.meshBlock [2, 2] ![[1], [], []] d) x :
        FVec F Cert.Kernel.S1x4096x2048 .f32) Facts₀.bitsLt_bf16_f32 : FVec F Cert.Kernel.S1x4096x2048 .bf16)
      = Layout.blockN ⟨3, ![1, 4096, 2048]⟩ ⟨3, ![2, 4096, 2048]⟩ (Layout.meshBlock [2, 2] ![[1], [], []] c) (out x p) := by
  funext i
  have hi : (i 0).val = 0 := Nat.lt_one_iff.mp (i 0).isLt
  refine (out_at x p _ _ ?_ ?_).symm
  · refine Eq.trans ?_ (h _ ?_)
    · show Layout.meshLin [2, 2] d.val [1] * 1 + (i 0).val = _
      rw [hi, Nat.mul_one, Nat.add_zero]
    · show Layout.meshLin [2, 2] c.val [1] * 1 + (i 0).val = _
      rw [hi, Nat.mul_one, Nat.add_zero]
  · intro a ha
    fin_cases a
    · exact absurd rfl ha
    · rfl
    · rfl

/-- On each device: the partner's block of the argument, narrowed, is the device's block of the reference's result at the crossed table; -/
theorem result_eq (x : FVec F S2x4096x2048 .f32) (c : Dev Cert.Kernel.nD) :
    (truncf .bf16 (Layout.blockN ⟨3, ![1, 4096, 2048]⟩ ⟨3, ![2, 4096, 2048]⟩ (Layout.meshBlock [2, 2] ![[1], [], []] (peer c)) x :
        FVec F Cert.Kernel.S1x4096x2048 .f32) Facts₀.bitsLt_bf16_f32 : FVec F Cert.Kernel.S1x4096x2048 .bf16)
      = Layout.blockN ⟨3, ![1, 4096, 2048]⟩ ⟨3, ![2, 4096, 2048]⟩ (Layout.meshBlock [2, 2] ![[1], [], []] c) (out x crossed) :=
  block_out x crossed c (peer c) fun a ha => by rw [row_crossed, block_peer, ha]

/-- its own block is the device's block of the result at the kept one. -/
theorem result_kept (x : FVec F S2x4096x2048 .f32) (c : Dev Cert.Kernel.nD) :
    (truncf .bf16 (Layout.blockN ⟨3, ![1, 4096, 2048]⟩ ⟨3, ![2, 4096, 2048]⟩ (Layout.meshBlock [2, 2] ![[1], [], []] c) x :
        FVec F Cert.Kernel.S1x4096x2048 .f32) Facts₀.bitsLt_bf16_f32 : FVec F Cert.Kernel.S1x4096x2048 .bf16)
      = Layout.blockN ⟨3, ![1, 4096, 2048]⟩ ⟨3, ![2, 4096, 2048]⟩ (Layout.meshBlock [2, 2] ![[1], [], []] c) (out x kept) :=
  block_out x kept c c fun a ha => by rw [row_kept, ha]

end Cert.Proof.Ref

end
-- ==== Proof.lean ====
/-
  The claims: the kernel's runs (Proof/Launch.lean, Proof/LocalRun.lean) at both instances, the reference's run (Proof/Ref.lean),
  and the equation of their results (Proof/Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_swaps_Kernel
public import proofs.«01_k».proof.Proof.Gen.Pre_swaps_ReferenceIdeal
public import proofs.«01_k».proof.Pre_keeps_Kernel
public import proofs.«01_k».proof.Pre_keeps_ReferenceIdeal
public import proofs.«01_k».proof.Proof.KeepFacts
public import proofs.«01_k».proof.Proof.Launch
public import proofs.«01_k».proof.Proof.LocalRun
public import proofs.«01_k».proof.Proof.Ref
public import proofs.«01_k».proof.Proof.Value
public import Idealize.ShloMosaic.Adequacy
public import Idealize.ShloMosaic.Init

@[expose] public section

noncomputable section

namespace Cert.Proof

open Idealize.ShloMosaic Idealize.SL.Sem

/-! ## The kernel read at the ideal instance

The ideal program's text is the kernel's, operation for operation: one run theorem serves both. -/

theorem ideal_main {F : FTy → Type} [FloatOps F] (c : Dev Cert.Kernel.nD) :
    Cert.KernelIdeal.main (F := F) c = Cert.Kernel.main (F := F) c := rfl

set_option maxRecDepth 10000 in
theorem ideal_defs {F : FTy → Type} [FloatOps F] : Cert.KernelIdeal.defs (F := F) = Cert.Kernel.defs (F := F) := by chain_rfl

/-- An end of the kernel's runs is an end of the ideal program's. -/
theorem ideal_of_kernel (m : (ℓ : Loc Cert.KernelIdeal.nD Cert.KernelIdeal.τ Cert.KernelIdeal.sig) → Buf (Elt Ideal) ℓ)
    (g : Dev Cert.KernelIdeal.nD → PrngReg)
    {Q : PUnit × MemSt Cert.Kernel.nD Cert.Kernel.τ Cert.Kernel.sig (Elt Ideal) → Prop}
    (h : θ_run (Cert.Kernel.defs (F := Ideal)) (onTc (τ := Cert.Kernel.τ) (Cert.Kernel.main (F := Ideal))) ⟨m, fun _ => 0, g⟩ Q) :
    θ_run (Cert.KernelIdeal.defs (F := Ideal)) (onTc (τ := Cert.KernelIdeal.τ) (Cert.KernelIdeal.main (F := Ideal)))
      ⟨m, fun _ => 0, g⟩ Q := by
  rw [ideal_defs, show Cert.KernelIdeal.main (F := Ideal) = Cert.Kernel.main (F := Ideal) from funext ideal_main]
  exact h

/-- Every device's table is the crossed one, or every device's the kept one: what the kernel's two runs ask for. -/
theorem ok_of_crossed {F : FTy → Type} [FloatOps F] (m : (ℓ : Loc Cert.Kernel.nD Cert.Kernel.τ Cert.Kernel.sig) → Buf (Elt F) ℓ)
    (h : ∀ c : Dev Cert.Kernel.nD, m (c.tc.loc Cert.Kernel.main_arg1) = Ref.crossed) : Swap.PreOK m :=
  fun c k => congrFun (h c) (Swap.pAt k)

theorem ok_of_kept {F : FTy → Type} [FloatOps F] (m : (ℓ : Loc Cert.Kernel.nD Cert.Kernel.τ Cert.Kernel.sig) → Buf (Elt F) ℓ)
    (h : ∀ c : Dev Cert.Kernel.nD, m (c.tc.loc Cert.Kernel.main_arg1) = Ref.kept) : Keep.PreOK m :=
  fun c k => congrFun (h c) (Swap.pAt k)

/-- The reference's run with what its quiescence adds: no semaphore is declared, so every counter is zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1))
        ∧ r.2.sem = fun _ => 0) :=
  θ_run_mono (Ref.run_main m g) fun r hr => ⟨fun c => (hr c).2, sem_eq_zero_of_no_sems (by decide) r.2⟩

theorem kernel_frame : Cert.quiescent_Kernel := fun m g h =>
  θ_run_mono (Swap.run_main m g (ok_of_crossed m fun c => Ref.crossed_of_pre _ _ (h c)))
    fun r hr => ⟨fun c => (hr.1 c).2, hr.2⟩

theorem kernel_frame_keeps : Cert.quiescent_Kernel_pre_keeps_Kernel := fun m g h =>
  θ_run_mono (Keep.run_main m g (ok_of_kept m fun c => Ref.kept_of_pre _ _ (h c)))
    fun r hr => ⟨fun c => (hr.1 c).2, hr.2⟩

theorem ideal_frame : Cert.quiescent_KernelIdeal := fun m g h =>
  θ_run_mono (ideal_of_kernel m g (Swap.run_main m g (ok_of_crossed m fun c => Ref.crossed_of_pre _ _ (h c))))
    fun r hr => ⟨fun c => (hr.1 c).2, hr.2⟩

theorem ideal_frame_keeps : Cert.quiescent_KernelIdeal_pre_keeps_Kernel := fun m g h =>
  θ_run_mono (ideal_of_kernel m g (Keep.run_main m g (ok_of_kept m fun c => Ref.kept_of_pre _ _ (h c))))
    fun r hr => ⟨fun c => (hr.1 c).2, hr.2⟩

/-- The narrower format of equal shards. -/
theorem narrow_congr {x y : FVec Ideal Cert.Kernel.S1x4096x2048 .f32} (h : x = y) :
    (truncf .bf16 x Cert.ReferenceIdeal.Facts₀.bitsLt_bf16_f32 : FVec Ideal Cert.Kernel.S1x4096x2048 .bf16)
      = truncf .bf16 y Cert.ReferenceIdeal.Facts₀.bitsLt_bf16_f32 := by rw [h]

theorem values_agree : Cert.algebraic_KernelIdeal_ReferenceIdeal := fun m g m' g' h hm => by
  have hp : ∀ c : Dev Cert.Kernel.nD, m (c.tc.loc Cert.Kernel.main_arg1) = Ref.crossed := fun c => Ref.crossed_of_pre _ _ (h c)
  have hp' : m' ((0 : Dev Cert.ReferenceIdeal.nD).tc.loc Cert.ReferenceIdeal.main_arg1) = Ref.crossed := (hm 0).2.symm.trans (hp 0)
  refine ⟨Ref.out (F := Ideal) (m' ((0 : Dev Cert.ReferenceIdeal.nD).tc.loc Cert.ReferenceIdeal.main_arg0)) Ref.crossed,
    θ_run_mono (ideal_of_kernel m g (Swap.run_main m g (ok_of_crossed m hp))) fun r hr c => ⟨?_, (hr.1 c).2⟩,
    θ_run_mono (Ref.run_main m' g') fun r hr => ⟨?_, (hr 0).2⟩⟩
  · exact (hr.1 c).1.trans ((narrow_congr (hm (Swap.peer c)).1).trans (Ref.result_eq (F := Ideal) (m' ((0 : Dev Cert.ReferenceIdeal.nD).tc.loc Cert.ReferenceIdeal.main_arg0)) c))
  · exact (hr 0).1.trans (congrArg (Ref.out (F := Ideal) _) hp')

theorem values_agree_keeps : Cert.algebraic_KernelIdeal_ReferenceIdeal_pre_keeps_Kernel := fun m g m' g' h hm => by
  have hp : ∀ c : Dev Cert.Kernel.nD, m (c.tc.loc Cert.Kernel.main_arg1) = Ref.kept := fun c => Ref.kept_of_pre _ _ (h c)
  have hp' : m' ((0 : Dev Cert.ReferenceIdeal.nD).tc.loc Cert.ReferenceIdeal.main_arg1) = Ref.kept := (hm 0).2.symm.trans (hp 0)
  refine ⟨Ref.out (F := Ideal) (m' ((0 : Dev Cert.ReferenceIdeal.nD).tc.loc Cert.ReferenceIdeal.main_arg0)) Ref.kept,
    θ_run_mono (ideal_of_kernel m g (Keep.run_main m g (ok_of_kept m hp))) fun r hr c => ⟨?_, (hr.1 c).2⟩,
    θ_run_mono (Ref.run_main m' g') fun r hr => ⟨?_, (hr 0).2⟩⟩
  · exact (hr.1 c).1.trans ((narrow_congr (hm c).1).trans (Ref.result_kept (F := Ideal) (m' ((0 : Dev Cert.ReferenceIdeal.nD).tc.loc Cert.ReferenceIdeal.main_arg0)) c))
  · exact (hr 0).1.trans (congrArg (Ref.out (F := Ideal) _) hp')

theorem claim : Cert.Claim :=
  ⟨Cert.Kernel.Gen.facts, Cert.KernelIdeal.Gen.facts, Cert.ReferenceIdeal.Gen.facts, Cert.Pre_swaps_Kernel.Gen.facts, keeps_facts,
    Cert.Pre_swaps_ReferenceIdeal.Gen.facts, keeps_ref_facts,
    kernel_frame, kernel_frame_keeps, ideal_frame, ideal_frame_keeps,
    fun m g _ => ref_frame m g, fun m g _ => ref_frame m g, fun m g _ => ref_frame m g, trivial, values_agree, values_agree_keeps⟩

end Cert.Proof

end
